-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x1920 : Shape := ⟨3, ![2, 128, 1920]⟩
abbrev S3x3x960x1280 : Shape := ⟨4, ![3, 3, 960, 1280]⟩
abbrev S30x1280 : Shape := ⟨2, ![30, 1280]⟩
abbrev S1280 : Shape := ⟨1, ![1280]⟩
abbrev S_ : Shape := ⟨0, ![]⟩

class Facts : Prop where
  bitsLt_bf16_f32 : FTy.bits .bf16 < FTy.bits .f32
  bcast_S_S2x128x1920 : S_.BroadcastsInDim S2x128x1920 (![] : Fin 0 → Fin S2x128x1920.rank)

variable [Facts]

def fn {F : FTy → Type} [FloatOps F] (main_arg0 : FVec F S2x128x1920 .bf16) (main_arg1 : IVec S3x3x960x1280 8) (main_arg2 : FVec F S30x1280 .f32) (main_arg3 : FVec F S1280 .f32) (main_arg4 : FVec F S1280 .f32) : IVec S2x128x1920 1 :=
  let main_v0 : FVec F S2x128x1920 .f32 := (extf .f32 · bitsLt_bf16_f32) main_arg0
  let main_v1 : FVec F S2x128x1920 .f32 := Host.absf main_v0
  let main_cst : FVec F S_ .f32 := constant S_ .f32 0x7F7F0000#32
  let main_v2 : FVec F S2x128x1920 .f32 := broadcastInDim S2x128x1920 ![] bcast_S_S2x128x1920 main_cst
  let main_v3 : IVec S2x128x1920 1 := cmpf .ole main_v1 main_v2
  main_v3
-- ==== Kernel.lean ====
abbrev S2x128x1920 : Shape := ⟨3, ![2, 128, 1920]⟩
abbrev S3x3x960x1280 : Shape := ⟨4, ![3, 3, 960, 1280]⟩
abbrev S30x1280 : Shape := ⟨2, ![30, 1280]⟩
abbrev S1280 : Shape := ⟨1, ![1280]⟩
abbrev S256x1920 : Shape := ⟨2, ![256, 1920]⟩
abbrev S1x1280 : Shape := ⟨2, ![1, 1280]⟩
abbrev S256x1280 : Shape := ⟨2, ![256, 1280]⟩
abbrev S256x128 : Shape := ⟨2, ![256, 128]⟩
abbrev S3x3x960x256 : Shape := ⟨4, ![3, 3, 960, 256]⟩
abbrev S30x256 : Shape := ⟨2, ![30, 256]⟩
abbrev S1x256 : Shape := ⟨2, ![1, 256]⟩
abbrev S256x256 : Shape := ⟨2, ![256, 256]⟩
abbrev S3x256x1920 : Shape := ⟨3, ![3, 256, 1920]⟩
abbrev S1920x256 : Shape := ⟨2, ![1920, 256]⟩
abbrev S16x1920 : Shape := ⟨2, ![16, 1920]⟩
abbrev S16 : Shape := ⟨1, ![16]⟩
abbrev S16x1 : Shape := ⟨2, ![16, 1]⟩
abbrev S16x128 : Shape := ⟨2, ![16, 128]⟩
abbrev S16x256 : Shape := ⟨2, ![16, 256]⟩
abbrev S1x1920 : Shape := ⟨2, ![1, 1920]⟩
abbrev S15x1920 : Shape := ⟨2, ![15, 1920]⟩
abbrev S1x16x1920 : Shape := ⟨3, ![1, 16, 1920]⟩
abbrev S1x1x32x256 : Shape := ⟨4, ![1, 1, 32, 256]⟩
abbrev S32x256 : Shape := ⟨2, ![32, 256]⟩
abbrev S8x256 : Shape := ⟨2, ![8, 256]⟩
abbrev S1x256x1920 : Shape := ⟨3, ![1, 256, 1920]⟩
abbrev S128x256 : Shape := ⟨2, ![128, 256]⟩
abbrev S112x256 : Shape := ⟨2, ![112, 256]⟩

abbrev nBuf : Space → Nat
  | .hbm => 11
  | .vmem => 15
  | .smem => 0
  | _ => 0

abbrev bufTy : (tb : Table) → Fin (tcTables nBuf tb) → BufTy
  | .hbm, ⟨0, _⟩ => ⟨S2x128x1920, .bf16⟩
  | .hbm, ⟨1, _⟩ => ⟨S3x3x960x1280, .i8⟩
  | .hbm, ⟨2, _⟩ => ⟨S30x1280, .f32⟩
  | .hbm, ⟨3, _⟩ => ⟨S1280, .f32⟩
  | .hbm, ⟨4, _⟩ => ⟨S1280, .f32⟩
  | .hbm, ⟨5, _⟩ => ⟨S256x1920, .bf16⟩
  | .hbm, ⟨6, _⟩ => ⟨S1x1280, .f32⟩
  | .hbm, ⟨7, _⟩ => ⟨S1x1280, .f32⟩
  | .hbm, ⟨8, _⟩ => ⟨S256x1280, .bf16⟩
  | .hbm, ⟨9, _⟩ => ⟨S256x1920, .fp8e4m3⟩
  | .hbm, ⟨10, _⟩ => ⟨S256x128, .f32⟩
  | .local _ .vmem, ⟨0, _⟩ => ⟨S256x1920, .bf16⟩
  | .local _ .vmem, ⟨1, _⟩ => ⟨S3x3x960x256, .i8⟩
  | .local _ .vmem, ⟨2, _⟩ => ⟨S3x3x960x256, .i8⟩
  | .local _ .vmem, ⟨3, _⟩ => ⟨S30x256, .f32⟩
  | .local _ .vmem, ⟨4, _⟩ => ⟨S30x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S256x256, .bf16⟩
  | .local _ .vmem, ⟨10, _⟩ => ⟨S256x256, .bf16⟩
  | .local _ .vmem, ⟨11, _⟩ => ⟨S256x1920, .fp8e4m3⟩
  | .local _ .vmem, ⟨12, _⟩ => ⟨S256x128, .f32⟩
  | .local _ .vmem, ⟨13, _⟩ => ⟨S3x256x1920, .bf16⟩
  | .local _ .vmem, ⟨14, _⟩ => ⟨S1920x256, .bf16⟩
  | _, _ => ⟨S2x128x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x3x960x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S30x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x1920 : Shape := ⟨3, ![2, 128, 1920]⟩
abbrev S3x3x960x1280 : Shape := ⟨4, ![3, 3, 960, 1280]⟩
abbrev S30x1280 : Shape := ⟨2, ![30, 1280]⟩
abbrev S1280 : Shape := ⟨1, ![1280]⟩
abbrev S256x1280 : Shape := ⟨2, ![256, 1280]⟩
abbrev S256x1920 : Shape := ⟨2, ![256, 1920]⟩
abbrev S256x128 : Shape := ⟨2, ![256, 128]⟩
abbrev S2x128 : Shape := ⟨2, ![2, 128]⟩
abbrev S2x128x1 : Shape := ⟨3, ![2, 128, 1]⟩
abbrev S2x128x253 : Shape := ⟨3, ![2, 128, 253]⟩
abbrev S256x1 : Shape := ⟨2, ![256, 1]⟩
abbrev S30x1x1280 : Shape := ⟨3, ![30, 1, 1280]⟩
abbrev S30x32x1280 : Shape := ⟨3, ![30, 32, 1280]⟩
abbrev S960x1280 : Shape := ⟨2, ![960, 1280]⟩
abbrev S1x1x960x1280 : Shape := ⟨4, ![1, 1, 960, 1280]⟩
abbrev S2x8x16x30x64 : Shape := ⟨5, ![2, 8, 16, 30, 64]⟩
abbrev S2x8x16x30x32 : Shape := ⟨5, ![2, 8, 16, 30, 32]⟩
abbrev S2x8x16x960 : Shape := ⟨4, ![2, 8, 16, 960]⟩
abbrev S2x1x16x960 : Shape := ⟨4, ![2, 1, 16, 960]⟩
abbrev S2x9x16x960 : Shape := ⟨4, ![2, 9, 16, 960]⟩
abbrev S2x10x16x960 : Shape := ⟨4, ![2, 10, 16, 960]⟩
abbrev S2x10x1x960 : Shape := ⟨4, ![2, 10, 1, 960]⟩
abbrev S2x10x17x960 : Shape := ⟨4, ![2, 10, 17, 960]⟩
abbrev S2x10x18x960 : Shape := ⟨4, ![2, 10, 18, 960]⟩
abbrev S256x960 : Shape := ⟨2, ![256, 960]⟩
abbrev S1x1280 : Shape := ⟨2, ![1, 1280]⟩

abbrev nBuf : Space → Nat
  | .hbm => 8
  | .vmem => 8
  | .smem => 0
  | _ => 0

abbrev bufTy : (tb : Table) → Fin (tcTables nBuf tb) → BufTy
  | .hbm, ⟨0, _⟩ => ⟨S2x128x1920, .bf16⟩
  | .hbm, ⟨1, _⟩ => ⟨S3x3x960x1280, .i8⟩
  | .hbm, ⟨2, _⟩ => ⟨S30x1280, .f32⟩
  | .hbm, ⟨3, _⟩ => ⟨S1280, .f32⟩
  | .hbm, ⟨4, _⟩ => ⟨S1280, .f32⟩
  | .hbm, ⟨5, _⟩ => ⟨S256x1280, .bf16⟩
  | .hbm, ⟨6, _⟩ => ⟨S256x1920, .fp8e4m3⟩
  | .hbm, ⟨7, _⟩ => ⟨S256x128, .f32⟩
  | .local _ .vmem, ⟨0, _⟩ => ⟨S2x128x1920, .bf16⟩
  | .local _ .vmem, ⟨1, _⟩ => ⟨S3x3x960x1280, .i8⟩
  | .local _ .vmem, ⟨2, _⟩ => ⟨S30x1280, .f32⟩
  | .local _ .vmem, ⟨3, _⟩ => ⟨S1280, .f32⟩
  | .local _ .vmem, ⟨4, _⟩ => ⟨S1280, .f32⟩
  | .local _ .vmem, ⟨5, _⟩ => ⟨S256x1280, .bf16⟩
  | .local _ .vmem, ⟨6, _⟩ => ⟨S256x1920, .fp8e4m3⟩
  | .local _ .vmem, ⟨7, _⟩ => ⟨S256x128, .f32⟩
  | _, _ => ⟨S2x128x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x128x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x960x1280 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S30x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Rolled.lean ====
/- The kernel's body written with loops: the sixteen row blocks that fill the quantised arrays, the nine taps, the
   thirty weight groups of a tap — each one definition, taken at a running index — and the body equal to it. -/
module

public import proofs.«01_k».proof.Proof.Gen.KernelIdeal

@[expose] public section

set_option maxRecDepth 65536

noncomputable section

namespace Cert.KernelIdeal.Rolled

open Idealize.ShloMosaic Idealize.SL.Sem Cert.KernelIdeal Cert.KernelIdeal.Gen

variable {F : FTy → Type} [FloatOps F]

/-- A program of the kernel body's effects. -/
abbrev Body (F : FTy → Type) [FloatOps F] := Prog (TpuEff nD τ sig (Elt F) Λ₀ .tc) PUnit

/-! ## What one step computes -/

/-- The low nibbles of 32 rows of packed bytes, times sixteen, as bytes. -/
def loBytes (w : Vec F S1x1x32x256 .i8) : IVec S32x256 8 :=
  bitcast S32x256 8 (andi (shli (bitcast S8x256 32 (shapeCast S32x256 w shapeCasts_S1x1x32x256_S32x256 : IVec S32x256 8) bitcasts_S32x256_w8_S8x256_w32)
    (broadcast S8x256 4#32)) (broadcast S8x256 4042322160#32)) bitcasts_S8x256_w32_S32x256_w8
/-- The high nibbles, times sixteen, as bytes. -/
def hiBytes (w : Vec F S1x1x32x256 .i8) : IVec S32x256 8 :=
  bitcast S32x256 8 (andi (bitcast S8x256 32 (shapeCast S32x256 w shapeCasts_S1x1x32x256_S32x256 : IVec S32x256 8) bitcasts_S32x256_w8_S8x256_w32)
    (broadcast S8x256 4042322160#32)) bitcasts_S8x256_w32_S32x256_w8
/-- Sixteen rows of the input, widened. -/
def wide (x : Vec F S16x1920 .bf16) : FVec F S16x1920 .f32 := extf .f32 (shapeCast S16x1920 x shapeCasts_S16x1920_S16x1920 : FVec F S16x1920 .bf16) bitsLt_bf16_f32
/-- Each row's greatest absolute value over 448, in every lane. -/
def ratio (x : Vec F S16x1920 .bf16) : FVec F S16x128 .f32 :=
  mulf (broadcastTo S16x128 (shapeCast S16x1 (shapeCast S16x1 (multiReduction .maximumf [1] S16 (absf (wide x)) 0xFF800000#32 reduces_S16x1920_S16 (.inl rfl) rfl)
    shapeCasts_S16_S16x1) shapeCasts_S16x1_S16x1) broadcasts_S16x1_S16x128) (broadcast S16x128 (Scalar.ofBits .f32 0x3B124925#32))
/-- The exponent field of each row's ratio: 255 less how many rungs of the ladder of 256 powers lie above it. -/
def field (x : Vec F S16x1920 .bf16) : IVec S16x128 32 :=
  broadcastTo S16x128 (shapeCast S16x1 (subi (broadcast S16x1 255#32) (shapeCast S16x1 (multiReductionI .add [1] S16
    (extui 32 (cmpf .olt (broadcastTo S16x256 (extractStridedSlice S16x1 ![0, 0] (ratio x) slices_S16x128_o0_0_S16x1) broadcasts_S16x1_S16x256)
      (bitcastToFloat .f32 (shli (iota .tc S16x256 32 [1] iota_S16x256_d1_w32) (broadcast S16x256 23#32)))) natLt_1_32)
    0#32 reduces_S16x256_S16 rfl) shapeCasts_S16_S16x1)) shapeCasts_S16x1_S16x1) broadcasts_S16x1_S16x128
/-- The exponent of each row's scale. -/
def expo (x : Vec F S16x1920 .bf16) : IVec S16x128 32 :=
  select (cmpi .eq (field x) (broadcast S16x128 0#32)) (broadcast S16x128 0#32) (subi (field x) (broadcast S16x128 126#32))
/-- The scale of each row, in every lane. -/
def scaleB (x : Vec F S16x1920 .bf16) : FVec F S16x128 .f32 :=
  bitcastToFloat .f32 (shli (addi (expo x) (broadcast S16x128 127#32)) (broadcast S16x128 23#32))
/-- Its reciprocal. -/
def invB (x : Vec F S16x1920 .bf16) : FVec F S16x128 .f32 :=
  bitcastToFloat .f32 (shli (subi (broadcast S16x128 127#32) (expo x)) (broadcast S16x128 23#32))
/-- The codes of sixteen rows. -/
def codesB (x : Vec F S16x1920 .bf16) : FVec F S16x1920 .fp8e4m3 :=
  truncf .fp8e4m3 (minimumf (broadcast S16x1920 (Scalar.ofBits .f32 0x43E00000#32)) (maximumf (broadcast S16x1920 (Scalar.ofBits .f32 0xC3E00000#32))
    (mulf (wide x) (broadcastTo S16x1920 (extractStridedSlice S16x1 ![0, 0] (invB x) slices_S16x128_o0_0_S16x1) broadcasts_S16x1_S16x1920)))) bitsLt_fp8e4m3_f32
/-- The rows the codes stand for. -/
def xdB (x : Vec F S16x1920 .bf16) : FVec F S16x1920 .f32 :=
  mulf (extf .f32 (codesB x) bitsLt_fp8e4m3_f32)
    (broadcastTo S16x1920 (extractStridedSlice S16x1 ![0, 0] (scaleB x) slices_S16x128_o0_0_S16x1) broadcasts_S16x1_S16x1920)
/-- One row of zeros. -/
def padRow : FVec F S1x1920 .f32 := broadcast S1x1920 (Scalar.ofBits .f32 0x00000000#32)
/-- Those rows seen from the pixel to the right (`dx = 0`), in place, or from the left: an image row is sixteen pixels. -/
def seen (dx : ℕ) (x : Vec F S16x1920 .bf16) : FVec F S16x1920 .f32 :=
  match dx with
  | 0 => concatenate S16x1920 0 [⟨S1x1920, padRow⟩, ⟨S15x1920, extractStridedSlice S15x1920 ![0, 0] (xdB x) slices_S16x1920_o0_0_S15x1920⟩] concatenates_S1x1920_S15x1920_S16x1920_d0
  | 1 => xdB x
  | _ + 2 => concatenate S16x1920 0 [⟨S15x1920, extractStridedSlice S15x1920 ![1, 0] (xdB x) slices_S16x1920_o1_0_S15x1920⟩, ⟨S1x1920, padRow⟩] concatenates_S15x1920_S1x1920_S16x1920_d0
/-- The same as the block the scratch takes. -/
def xsB (dx : ℕ) (x : Vec F S16x1920 .bf16) : FVec F S1x16x1920 .bf16 :=
  shapeCast S1x16x1920 (truncf .bf16 (seen dx x) bitsLt_bf16_f32) shapeCasts_S16x1920_S1x16x1920

/-- One group's scales over sixteen. -/
def gsRow (s : Vec F S1x256 .f32) : FVec F S1x256 .bf16 :=
  truncf .bf16 (mulf s (broadcast S1x256 (Scalar.ofBits .f32 0x3D800000#32))) bitsLt_bf16_f32
/-- Bytes times a group's scales. -/
def dec (b : IVec S32x256 8) (s : Vec F S1x256 .f32) : FVec F S32x256 .bf16 :=
  mulf (sitofp .bf16 b) (broadcastTo S32x256 (gsRow s) broadcasts_S1x256_S32x256)

/-- The product of one tap. -/
def tapDot (x : Vec F S1x256x1920 .bf16) (w : Vec F S1920x256 .bf16) : FVec F S256x256 .f32 :=
  matmul dot_S256x1920_S1920x256_S256x256_1_0_0_1_n_n none (shapeCast S256x1920 x shapeCasts_S1x256x1920_S256x1920) w (constant S256x256 .f32 0x00000000#32)
/-- Sixteen rows of zeros. -/
def pad : FVec F S16x256 .f32 := broadcast S16x256 (Scalar.ofBits .f32 0x00000000#32)
/-- One image's rows of a product moved for the kernel row `dy`: down by one image row, not at all, or up. -/
def shifted (dy : ℕ) (z : FVec F S128x256 .f32) : FVec F S128x256 .f32 :=
  match dy with
  | 0 => concatenate S128x256 0 [⟨S16x256, pad⟩, ⟨S112x256, extractStridedSlice S112x256 ![0, 0] z slices_S128x256_o0_0_S112x256⟩] concatenates_S16x256_S112x256_S128x256_d0
  | 1 => z
  | _ + 2 => concatenate S128x256 0 [⟨S112x256, extractStridedSlice S112x256 ![16, 0] z slices_S128x256_o16_0_S112x256⟩, ⟨S16x256, pad⟩] concatenates_S112x256_S16x256_S128x256_d0
/-- One tap added to the sum of those before it. -/
def addTap (dy : ℕ) (a : FVec F S256x256 .f32) (x : Vec F S1x256x1920 .bf16) (w : Vec F S1920x256 .bf16) : FVec F S256x256 .f32 :=
  addf a (concatenate S256x256 0
    [⟨S128x256, shifted dy (extractStridedSlice S128x256 ![0, 0] (tapDot x w) slices_S256x256_o0_0_S128x256)⟩,
     ⟨S128x256, shifted dy (extractStridedSlice S128x256 ![128, 0] (tapDot x w) slices_S256x256_o128_0_S128x256)⟩] concatenates_S128x256_S128x256_S256x256_d0)
/-- The result block from the sum over the taps. -/
def outBlock (a : FVec F S256x256 .f32) (cs b : Vec F S1x256 .f32) : FVec F S256x256 .bf16 :=
  truncf .bf16 (addf (mulf a (broadcastTo S256x256 (shapeCast S1x256 cs shapeCasts_S1x256_S1x256) broadcasts_S1x256_S256x256))
    (broadcastTo S256x256 (shapeCast S1x256 b shapeCasts_S1x256_S1x256) broadcasts_S1x256_S256x256)) bitsLt_bf16_f32

/-! ## The weights of one tap, group by group -/

theorem inbW {dy dx g : ℕ} (hy : dy < 3) (hx : dx < 3) (hg : g < 30) :
    ∀ a, (![dy, dx, 32 * g, 0] : Fin 4 → ℕ) a + S1x1x32x256.size a ≤ S3x3x960x256.size a := by
  intro a; fin_cases a <;> simp <;> omega
theorem inbS {g : ℕ} (hg : g < 30) : ∀ a, (![g, 0] : Fin 2 → ℕ) a + S1x256.size a ≤ S30x256.size a := by
  intro a; fin_cases a <;> simp <;> omega
theorem inbD {r : ℕ} (hr : r < 60) : ∀ a, (![32 * r, 0] : Fin 2 → ℕ) a + S32x256.size a ≤ S1920x256.size a := by
  intro a; fin_cases a <;> simp <;> omega
theorem packedD {r : ℕ} (hr : r < 60) :
    (Rect.unit (s := S1920x256) ![32 * r, 0] S32x256.size (inbD hr)).PackedRows (EltTy.packing .bf16) := by
  have h : 2 ∣ 32 * r := ⟨16 * r, by omega⟩
  refine .inr ⟨by decide, rfl, .inl ⟨?_, ?_⟩⟩
  · exact h
  · exact ⟨16, rfl⟩

variable (arg2 : Memref sig .tc .vmem S3x3x960x256 .i8) (arg3 : Memref sig .tc .vmem S30x256 .f32)
  (arg9 : Memref sig .tc .vmem S3x256x1920 .bf16)
  (arg10 : Memref sig .tc .vmem S1920x256 .bf16) (harg10 : arg10.IsWhole)

/-- Store one half of a group's weights at rows `32 r … 32 r + 31`, the row block read first. -/
def putHalf (r : ℕ) (hr : r < 60) (v : FVec F S32x256 .bf16) (k : Body F) : Body F :=
  .op (.load arg10 (Rect.unit (s := S1920x256) ![32 * r, 0] S32x256.size (inbD hr)).toLoadRect (View.loadsAt_vmem h_S32x256)) fun _ =>
  .op (.store arg10 (Rect.unit (s := S1920x256) ![32 * r, 0] S32x256.size (inbD hr)) (shapeCast S32x256 v shapeCasts_S32x256_S32x256) Finset.univ
    (View.stores_vmem h_S32x256 (harg10.storeExact_slice rfl _ (packedD hr)) (fun _ => rfl)) (.inl rfl)) fun _ => k

/-- Decode group `g` of tap `(dy, dx)` into the weight scratch. -/
def group (dy dx g : ℕ) (hy : dy < 3) (hx : dx < 3) (hg : g < 30) (k : Body F) : Body F :=
  .op (.load arg2 (Rect.unit (s := S3x3x960x256) ![dy, dx, 32 * g, 0] S1x1x32x256.size (inbW hy hx hg)).toLoadRect (View.loadsAt_vmem h_S1x1x32x256)) fun w =>
  .op (.load arg3 (Rect.unit (s := S30x256) ![g, 0] S1x256.size (inbS hg)).toLoadRect (View.loadsAt_vmem h_S1x256)) fun s =>
  putHalf arg10 harg10 (2 * g) (by omega) (dec (loBytes w) s) <|
  putHalf arg10 harg10 (2 * g + 1) (by omega) (dec (hiBytes w) s) k

/-- The first `n` groups of tap `(dy, dx)`. -/
def groups (dy dx : ℕ) (hy : dy < 3) (hx : dx < 3) : (n : ℕ) → n ≤ 30 → Body F → Body F
  | 0, _, k => k
  | n + 1, h, k => groups dy dx hy hx n (Nat.le_of_succ_le h) (group arg2 arg3 arg10 harg10 dy dx n hy hx h k)

theorem inbX {dx : ℕ} (hx : dx < 3) : ∀ a, (![dx, 0, 0] : Fin 3 → ℕ) a + S1x256x1920.size a ≤ S3x256x1920.size a := by
  intro a; fin_cases a <;> simp <;> omega

/-- One tap: its weights, then the two operands of its product read back. -/
def tap (dy dx : ℕ) (hy : dy < 3) (hx : dx < 3) (k : Vec F S1x256x1920 .bf16 → Vec F S1920x256 .bf16 → Body F) : Body F :=
  groups arg2 arg3 arg10 harg10 dy dx hy hx 30 le_rfl <|
  .op (.load arg9 (Rect.unit (s := S3x256x1920) ![dx, 0, 0] S1x256x1920.size (inbX hx)).toLoadRect (View.loadsAt_vmem h_S1x256x1920)) fun x =>
  .op (.load arg10 (Rect.unit (s := S1920x256) ![0, 0] S1920x256.size inb_S1920x256_S1920x256_0_0).toLoadRect (View.loadsAt_vmem h_S1920x256)) fun w =>
  k x w

/-- The first `n` taps, the sum of their shifted products handed on. -/
def taps : (n : ℕ) → n ≤ 9 → (FVec F S256x256 .f32 → Body F) → Body F
  | 0, _, k => k (broadcast S256x256 (Scalar.ofBits .f32 0x00000000#32))
  | n + 1, h, k => taps n (Nat.le_of_succ_le h) fun a =>
      tap arg2 arg3 arg9 arg10 harg10 (n / 3) (n % 3) (by omega) (by omega) fun x w => k (addTap (n / 3) a x w)

variable (arg4 : Memref sig .tc .vmem S1x256 .f32) (arg5 : Memref sig .tc .vmem S1x256 .f32)
  (arg6 : Memref sig .tc .vmem S256x256 .bf16) (harg6 : arg6.IsWhole)

/-- The convolution: the nine taps, then the result block stored. -/
def conv : Body F :=
  taps arg2 arg3 arg9 arg10 harg10 9 le_rfl fun a =>
  .op (.load arg4 (Rect.unit (s := S1x256) ![0, 0] S1x256.size inb_S1x256_S1x256_0_0).toLoadRect (View.loadsAt_vmem h_S1x256)) fun cs =>
  .op (.load arg5 (Rect.unit (s := S1x256) ![0, 0] S1x256.size inb_S1x256_S1x256_0_0).toLoadRect (View.loadsAt_vmem h_S1x256)) fun b =>
  .op (.load arg6 (Rect.unit (s := S256x256) ![0, 0] S256x256.size inb_S256x256_S256x256_0_0).toLoadRect (View.loadsAt_vmem h_S256x256)) fun _ =>
  .op (.store arg6 (Rect.unit (s := S256x256) ![0, 0] S256x256.size inb_S256x256_S256x256_0_0) (outBlock a cs b) Finset.univ
    (View.stores_vmem h_S256x256 (harg6.storeExact_slice rfl _ packedbf16_S256x256_S256x256_0_0) (fun _ => rfl)) (.inl rfl)) fun _ => .ret ⟨⟩

variable (i : grid0.Coords) (arg1 : Memref sig .tc .vmem S256x1920 .bf16) (harg1 : arg1.IsWhole) (harg2 : arg2.IsWhole)
  (harg3 : arg3.IsWhole) (harg4 : arg4.IsWhole) (harg5 : arg5.IsWhole)
  (arg7 : Memref sig .tc .vmem S256x1920 .fp8e4m3) (harg7 : arg7.IsWhole)
  (arg8 : Memref sig .tc .vmem S256x128 .f32) (harg8 : arg8.IsWhole) (harg9 : arg9.IsWhole)

theorem inbR {r : ℕ} (hr : r < 16) : ∀ a, (![16 * r, 0] : Fin 2 → ℕ) a + S16x1920.size a ≤ S256x1920.size a := by
  intro a; fin_cases a <;> simp <;> omega
theorem packedR {r : ℕ} (hr : r < 16) :
    (Rect.unit (s := S256x1920) ![16 * r, 0] S16x1920.size (inbR hr)).PackedRows (EltTy.packing .fp8e4m3) := by
  have h : 4 ∣ 16 * r := ⟨4 * r, by omega⟩
  refine .inr ⟨by decide, rfl, .inl ⟨?_, ?_⟩⟩
  · exact h
  · exact ⟨4, rfl⟩
theorem inbC {r : ℕ} (hr : r < 16) : ∀ a, (![16 * r, 0] : Fin 2 → ℕ) a + S16x128.size a ≤ S256x128.size a := by
  intro a; fin_cases a <;> simp <;> omega
theorem inbP {dx r : ℕ} (hx : dx < 3) (hr : r < 16) :
    ∀ a, (![dx, 16 * r, 0] : Fin 3 → ℕ) a + S1x16x1920.size a ≤ S3x256x1920.size a := by
  intro a; fin_cases a <;> simp <;> omega
theorem packedP {dx r : ℕ} (hx : dx < 3) (hr : r < 16) :
    (Rect.unit (s := S3x256x1920) ![dx, 16 * r, 0] S1x16x1920.size (inbP hx hr)).PackedRows (EltTy.packing .bf16) := by
  have h : 2 ∣ 16 * r := ⟨8 * r, by omega⟩
  refine .inr ⟨by decide, rfl, .inl ⟨?_, ?_⟩⟩
  · exact h
  · exact ⟨8, rfl⟩

/-- Store one block of the shifted pixels. -/
def putSeen (dx r : ℕ) (hx : dx < 3) (hr : r < 16) (v : FVec F S1x16x1920 .bf16) (k : Body F) : Body F :=
  .op (.load arg9 (Rect.unit (s := S3x256x1920) ![dx, 16 * r, 0] S1x16x1920.size (inbP hx hr)).toLoadRect (View.loadsAt_vmem h_S1x16x1920)) fun _ =>
  .op (.store arg9 (Rect.unit (s := S3x256x1920) ![dx, 16 * r, 0] S1x16x1920.size (inbP hx hr)) v Finset.univ
    (View.stores_vmem h_S1x16x1920 (harg9.storeExact_slice rfl _ (packedP hx hr)) (fun _ => rfl)) (.inl rfl)) fun _ => k

/-- Row block `r`: sixteen rows quantised, their codes, scales and three shifted copies stored. -/
def rows (r : ℕ) (hr : r < 16) (k : Body F) : Body F :=
  .op (.load arg1 (Rect.unit (s := S256x1920) ![16 * r, 0] S16x1920.size (inbR hr)).toLoadRect (View.loadsAt_vmem h_S16x1920)) fun x =>
  .op (.load arg7 (Rect.unit (s := S256x1920) ![16 * r, 0] S16x1920.size (inbR hr)).toLoadRect (View.loadsAt_vmem h_S16x1920)) fun _ =>
  .op (.store arg7 (Rect.unit (s := S256x1920) ![16 * r, 0] S16x1920.size (inbR hr)) (codesB x) Finset.univ
    (View.stores_vmem h_S16x1920 (harg7.storeExact_slice rfl _ (packedR hr)) (fun _ => rfl)) (.inl rfl)) fun _ =>
  .op (.load arg8 (Rect.unit (s := S256x128) ![16 * r, 0] S16x128.size (inbC hr)).toLoadRect (View.loadsAt_vmem h_S16x128)) fun _ =>
  .op (.store arg8 (Rect.unit (s := S256x128) ![16 * r, 0] S16x128.size (inbC hr)) (scaleB x) Finset.univ
    (View.stores_vmem_bits_univ h_S16x128 rfl) (.inl rfl)) fun _ =>
  putSeen arg9 harg9 0 r (by omega) hr (xsB 0 x) <|
  putSeen arg9 harg9 1 r (by omega) hr (xsB 1 x) <|
  putSeen arg9 harg9 2 r (by omega) hr (xsB 2 x) k

/-- The first `n` row blocks. -/
def quant : (n : ℕ) → n ≤ 16 → Body F → Body F
  | 0, _, k => k
  | n + 1, h, k => quant n (Nat.le_of_succ_le h) (rows arg9 arg1 arg7 harg7 arg8 harg9 n h k)

set_option maxHeartbeats 0 in
/-- Away from the first point the body is the convolution. -/
theorem body_of_not (h : ¬ k0_cond1 i = 1#1) :
    cc0__body (F := F) i arg1 harg1 arg2 harg2 arg3 harg3 arg4 harg4 arg5 harg5 arg6 harg6 arg7 harg7 arg8 harg8 arg9 harg9 arg10 harg10
      = conv arg2 arg3 arg9 arg10 harg10 arg4 arg5 arg6 harg6 := by
  unfold cc0__body k0_part225 k0_part29
  rw [dif_neg h]
  rfl

set_option maxHeartbeats 0 in
/-- At the first point the sixteen row blocks come before it. -/
theorem body_of (h : k0_cond1 i = 1#1) :
    cc0__body (F := F) i arg1 harg1 arg2 harg2 arg3 harg3 arg4 harg4 arg5 harg5 arg6 harg6 arg7 harg7 arg8 harg8 arg9 harg9 arg10 harg10
      = quant arg9 arg1 arg7 harg7 arg8 harg9 16 le_rfl (conv arg2 arg3 arg9 arg10 harg10 arg4 arg5 arg6 harg6) := by
  unfold cc0__body k0_part225 k0_part29
  rw [dif_pos h]
  rfl

end Cert.KernelIdeal.Rolled

end
-- ==== Proof.Steps.lean ====
/- What the looped body does to the contents of its buffers, step by step: each loop leaves in a buffer what a recursion over
   the same index says (`filled`, `sumTaps`, `put7`, `put8`, `put9`), whatever the buffer held before. -/
module

public import proofs.«01_k».proof.Proof.Rolled
public import proofs.«01_k».proof.Proof.Gen.KernelIdeal.Frame

@[expose] public section

set_option maxRecDepth 65536

noncomputable section

namespace Cert.KernelIdeal.Rolled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ## One load, one store -/

/-- A load through a rectangle reads the owned contents there. -/
theorem load_owns (c : Dev nD) {s : Shape} {e : EltTy} (a : Memref sig .tc .vmem s e) (r : Rect s) {hl : a.view.LoadsAt r.toLoadRect}
    {q : PosShare TreeShare} {X : s.Idx → Elt F e} {k : (r.shape.Idx → Elt F e) → Body F} {E : Set ℕ} {K : PUnit → sProp 𝕄} :
    (owns (c : Thread nD τ) a q X : sProp 𝕄)
      ⊢ iprop((owns (c : Thread nD τ) a q X -∗ wp frame (wpE (defs₀ (F := F)) Variants.none c none) E (k (View.ld X r)) K)
        -∗ wp frame (wpE (defs₀ (F := F)) Variants.none c none) E (.op (.load a r.toLoadRect hl) k) K) := by
  unfold owns
  iintro ⟨%f, %hf, H⟩ Hk
  iapply (wp_load (defs := defs₀ (F := F)) Variants.none (c : Thread nD τ) none E (m := a) (r := r.toLoadRect) (hl := hl) (k := k) (f := f)
    (S := a.view.set) (q := q) (a.view.setOn_subset_set _)) $$ H
  iintro H
  rw [View.readAt_eq_ld, hf]
  iapply Hk
  iexists f
  isplitr; · ipureintro; exact hf
  iexact H

/-- A store through a rectangle lays its payload over the owned contents there. -/
theorem store_owns (c : Dev nD) {s : Shape} {e : EltTy} (a : Memref sig .tc .vmem s e) (r : Rect s) (w : r.shape.Idx → Elt F e)
    {hx : (a.access r).Stores Finset.univ} {hm : (Finset.univ : Finset r.shape.Idx) = Finset.univ ∨ ∀ b, r.stride b = 1}
    {X : s.Idx → Elt F e} {k : PUnit → Body F} {E : Set ℕ} {K : PUnit → sProp 𝕄} :
    (owns (c : Thread nD τ) a fullShare X : sProp 𝕄)
      ⊢ iprop((owns (c : Thread nD τ) a fullShare (r.overlay X w) -∗ wp frame (wpE (defs₀ (F := F)) Variants.none c none) E (k ⟨⟩) K)
        -∗ wp frame (wpE (defs₀ (F := F)) Variants.none c none) E (.op (.store a r w Finset.univ hx hm) k) K) := by
  unfold owns
  iintro ⟨%f, %hf, H⟩ Hk
  iapply (wp_store (defs := defs₀ (F := F)) Variants.none (c : Thread nD τ) none E (m := a) (r := r) (w := w) (Mk := Finset.univ) (hx := hx) (hm := hm) (k := k) (f := f)
    (S := a.view.set) (by rw [View.setOn_univ, View.set_slice]; exact a.view.setOn_subset_set _)) $$ H
  iintro H
  iapply Hk
  iexists _
  isplitr
  swap
  · iexact H
  ipureintro
  funext y
  by_cases hy : y ∈ r.set
  · obtain ⟨x, rfl⟩ := r.exists_idx_of_mem hy
    rw [show r.idx x = r.emb x from rfl, Rect.overlay_emb]
    exact a.view.read_slice_write_emb r f w (Finset.mem_univ x)
  · rw [Rect.overlay_of_not_mem _ _ _ hy, ← hf]
    exact a.view.read_slice_write_of_not_mem r f w _ (by rwa [Rect.map_emb_univ])

/-! ## The weight scratch -/

section Taps

variable (arg2 : Memref sig .tc .vmem S3x3x960x256 .i8) (arg3 : Memref sig .tc .vmem S30x256 .f32)
  (arg9 : Memref sig .tc .vmem S3x256x1920 .bf16)
  (arg10 : Memref sig .tc .vmem S1920x256 .bf16) (harg10 : arg10.IsWhole)
  (W : Vec F S3x3x960x256 .i8) (S : Vec F S30x256 .f32) (X : Vec F S3x256x1920 .bf16)

/-- The rectangle of half-group `r` in the weight scratch. -/
abbrev rectD {r : ℕ} (hr : r < 60) : Rect S1920x256 := Rect.unit (s := S1920x256) ![32 * r, 0] S32x256.size (inbD hr)
/-- The rectangle of a group's packed bytes. -/
abbrev rectW {dy dx g : ℕ} (hy : dy < 3) (hx : dx < 3) (hg : g < 30) : Rect S3x3x960x256 :=
  Rect.unit (s := S3x3x960x256) ![dy, dx, 32 * g, 0] S1x1x32x256.size (inbW hy hx hg)
/-- The row of a group's scales. -/
abbrev rectS {g : ℕ} (hg : g < 30) : Rect S30x256 := Rect.unit (s := S30x256) ![g, 0] S1x256.size (inbS hg)
/-- Plane `dx` of the pixel scratch. -/
abbrev rectX {dx : ℕ} (hx : dx < 3) : Rect S3x256x1920 := Rect.unit (s := S3x256x1920) ![dx, 0, 0] S1x256x1920.size (inbX hx)

/-- Group `g`'s low half and high half, as the weight scratch takes them. -/
def lowHalf {dy dx g : ℕ} (hy : dy < 3) (hx : dx < 3) (hg : g < 30) : FVec F S32x256 .bf16 :=
  shapeCast S32x256 (dec (loBytes (View.ld W (rectW hy hx hg))) (View.ld S (rectS hg))) shapeCasts_S32x256_S32x256
/-- The high half. -/
def highHalf {dy dx g : ℕ} (hy : dy < 3) (hx : dx < 3) (hg : g < 30) : FVec F S32x256 .bf16 :=
  shapeCast S32x256 (dec (hiBytes (View.ld W (rectW hy hx hg))) (View.ld S (rectS hg))) shapeCasts_S32x256_S32x256

/-- The weight scratch after the first `n` groups of a tap, over contents `D`. -/
def filled {dy dx : ℕ} (hy : dy < 3) (hx : dx < 3) (D : Vec F S1920x256 .bf16) : (n : ℕ) → n ≤ 30 → Vec F S1920x256 .bf16
  | 0, _ => D
  | n + 1, h => (rectD (r := 2 * n + 1) (by omega)).overlay
      ((rectD (r := 2 * n) (by omega)).overlay (filled hy hx D n (Nat.le_of_succ_le h)) (lowHalf W S hy hx h)) (highHalf W S hy hx h)

/-- Running the first `n` groups. -/
theorem groups_spec {c : Dev nD} {E : Set ℕ} {K : PUnit → sProp 𝕄} {dy dx : ℕ} (hy : dy < 3) (hx : dx < 3) (D : Vec F S1920x256 .bf16) :
    ∀ (n : ℕ) (h : n ≤ 30) (k : Body F),
    iprop(owns (c : Thread nD τ) arg2 fullShare W ∗ owns (c : Thread nD τ) arg3 fullShare S ∗ owns (c : Thread nD τ) arg10 fullShare D)
      ⊢ iprop(((owns (c : Thread nD τ) arg2 fullShare W ∗ owns (c : Thread nD τ) arg3 fullShare S
            ∗ owns (c : Thread nD τ) arg10 fullShare (filled W S hy hx D n h))
          -∗ wp frame (wpE (defs₀ (F := F)) Variants.none c none) E k K)
        -∗ wp frame (wpE (defs₀ (F := F)) Variants.none c none) E (groups arg2 arg3 arg10 harg10 dy dx hy hx n h k) K) := by
  intro n
  induction n with
  | zero =>
    intro h k
    iintro H Hk
    iapply Hk; iexact H
  | succ n ih =>
    intro h k
    iintro H Hk
    rw [show groups arg2 arg3 arg10 harg10 dy dx hy hx (n + 1) h k
      = groups arg2 arg3 arg10 harg10 dy dx hy hx n (Nat.le_of_succ_le h) (group arg2 arg3 arg10 harg10 dy dx n hy hx h k) from rfl]
    iapply (ih (Nat.le_of_succ_le h) (group arg2 arg3 arg10 harg10 dy dx n hy hx h k)) $$ H
    iintro ⟨H2, H3, H10⟩
    unfold group putHalf
    iapply (load_owns c arg2 (rectW hy hx h)) $$ H2
    iintro H2
    iapply (load_owns c arg3 (rectS h)) $$ H3
    iintro H3
    iapply (load_owns c arg10 (rectD (r := 2 * n) (by omega))) $$ H10
    iintro H10
    iapply (store_owns c arg10 (rectD (r := 2 * n) (by omega)) (lowHalf W S hy hx h)) $$ H10
    iintro H10
    iapply (load_owns c arg10 (rectD (r := 2 * n + 1) (by omega))) $$ H10
    iintro H10
    iapply (store_owns c arg10 (rectD (r := 2 * n + 1) (by omega)) (highHalf W S hy hx h)) $$ H10
    iintro H10
    iapply Hk
    isplitl [H2]; · iexact H2
    isplitl [H3]; · iexact H3
    iexact H10

/-- The weight scratch and the sum over the first `n` taps, from contents `D` and nothing. -/
def sumTaps (D : Vec F S1920x256 .bf16) : (n : ℕ) → n ≤ 9 → Vec F S1920x256 .bf16 × FVec F S256x256 .f32
  | 0, _ => (D, broadcast S256x256 (Scalar.ofBits .f32 0x00000000#32))
  | n + 1, h =>
    let p := sumTaps D n (Nat.le_of_succ_le h)
    let D' := filled W S (dy := n / 3) (dx := n % 3) (by omega) (by omega) p.1 30 le_rfl
    (D', addTap (n / 3) p.2 (View.ld X (rectX (dx := n % 3) (by omega)))
      (View.ld D' (Rect.unit (s := S1920x256) ![0, 0] S1920x256.size inb_S1920x256_S1920x256_0_0)))

/-- Running the first `n` taps. -/
theorem taps_spec {c : Dev nD} {E : Set ℕ} {K : PUnit → sProp 𝕄} (D : Vec F S1920x256 .bf16) :
    ∀ (n : ℕ) (h : n ≤ 9) (k : FVec F S256x256 .f32 → Body F),
    iprop(owns (c : Thread nD τ) arg2 fullShare W ∗ owns (c : Thread nD τ) arg3 fullShare S ∗ owns (c : Thread nD τ) arg9 fullShare X
        ∗ owns (c : Thread nD τ) arg10 fullShare D)
      ⊢ iprop(((owns (c : Thread nD τ) arg2 fullShare W ∗ owns (c : Thread nD τ) arg3 fullShare S ∗ owns (c : Thread nD τ) arg9 fullShare X
            ∗ owns (c : Thread nD τ) arg10 fullShare (sumTaps W S X D n h).1)
          -∗ wp frame (wpE (defs₀ (F := F)) Variants.none c none) E (k (sumTaps W S X D n h).2) K)
        -∗ wp frame (wpE (defs₀ (F := F)) Variants.none c none) E (taps arg2 arg3 arg9 arg10 harg10 n h k) K) := by
  intro n
  induction n with
  | zero =>
    intro h k
    iintro H Hk
    iapply Hk; iexact H
  | succ n ih =>
    intro h k
    iintro H Hk
    unfold taps
    iapply (ih (Nat.le_of_succ_le h) _) $$ H
    iintro ⟨H2, H3, H9, H10⟩
    unfold tap
    iapply (groups_spec arg2 arg3 arg10 harg10 W S _ _ _ 30 le_rfl _) $$ [H2 H3 H10]
    · isplitl [H2]; · iexact H2
      isplitl [H3]; · iexact H3
      iexact H10
    iintro ⟨H2, H3, H10⟩
    iapply (load_owns c arg9 (rectX (dx := n % 3) (by omega))) $$ H9
    iintro H9
    iapply (load_owns c arg10 (Rect.unit (s := S1920x256) ![0, 0] S1920x256.size inb_S1920x256_S1920x256_0_0)) $$ H10
    iintro H10
    iapply Hk
    isplitl [H2]; · iexact H2
    isplitl [H3]; · iexact H3
    isplitl [H9]; · iexact H9
    iexact H10

variable (arg4 : Memref sig .tc .vmem S1x256 .f32) (arg5 : Memref sig .tc .vmem S1x256 .f32)
  (arg6 : Memref sig .tc .vmem S256x256 .bf16) (harg6 : arg6.IsWhole)
  (C B : Vec F S1x256 .f32) (Y : Vec F S256x256 .bf16)

/-- The one row of a vector of 256 lanes, whole. -/
abbrev rectV : Rect S1x256 := Rect.unit (s := S1x256) ![0, 0] S1x256.size inb_S1x256_S1x256_0_0
/-- The result block, whole. -/
abbrev rectY : Rect S256x256 := Rect.unit (s := S256x256) ![0, 0] S256x256.size inb_S256x256_S256x256_0_0

/-- What a point leaves in its result block. -/
def result (D : Vec F S1920x256 .bf16) : Vec F S256x256 .bf16 :=
  rectY.overlay Y (outBlock (sumTaps W S X D 9 le_rfl).2 (View.ld C rectV) (View.ld B rectV))

/-- Running the convolution. -/
theorem conv_spec {c : Dev nD} {E : Set ℕ} {K : PUnit → sProp 𝕄} (D : Vec F S1920x256 .bf16) :
    iprop(owns (c : Thread nD τ) arg2 fullShare W ∗ owns (c : Thread nD τ) arg3 fullShare S ∗ owns (c : Thread nD τ) arg9 fullShare X
        ∗ owns (c : Thread nD τ) arg10 fullShare D
        ∗ owns (c : Thread nD τ) arg4 fullShare C ∗ owns (c : Thread nD τ) arg5 fullShare B ∗ owns (c : Thread nD τ) arg6 fullShare Y)
      ⊢ iprop(((owns (c : Thread nD τ) arg2 fullShare W ∗ owns (c : Thread nD τ) arg3 fullShare S ∗ owns (c : Thread nD τ) arg9 fullShare X
            ∗ owns (c : Thread nD τ) arg10 fullShare (sumTaps W S X D 9 le_rfl).1
            ∗ owns (c : Thread nD τ) arg4 fullShare C ∗ owns (c : Thread nD τ) arg5 fullShare B
            ∗ owns (c : Thread nD τ) arg6 fullShare (result W S X C B Y D))
          -∗ K ⟨⟩)
        -∗ wp frame (wpE (defs₀ (F := F)) Variants.none c none) E (conv arg2 arg3 arg9 arg10 harg10 arg4 arg5 arg6 harg6) K) := by
  iintro ⟨H2, H3, H9, H10, H4, H5, H6⟩ Hk
  unfold conv
  iapply (taps_spec arg2 arg3 arg9 arg10 harg10 W S X D 9 le_rfl _) $$ [H2 H3 H9 H10]
  · isplitl [H2]; · iexact H2
    isplitl [H3]; · iexact H3
    isplitl [H9]; · iexact H9
    iexact H10
  iintro ⟨H2, H3, H9, H10⟩
  iapply (load_owns c arg4 rectV) $$ H4
  iintro H4
  iapply (load_owns c arg5 rectV) $$ H5
  iintro H5
  iapply (load_owns c arg6 rectY) $$ H6
  iintro H6
  iapply (store_owns c arg6 rectY (outBlock (sumTaps W S X D 9 le_rfl).2 (View.ld C rectV) (View.ld B rectV))) $$ H6
  iintro H6
  sl_step
  iapply Hk
  isplitl [H2]; · iexact H2
  isplitl [H3]; · iexact H3
  isplitl [H9]; · iexact H9
  isplitl [H10]; · iexact H10
  isplitl [H4]; · iexact H4
  isplitl [H5]; · iexact H5
  iexact H6

end Taps

/-! ## The quantised arrays -/

section Quant

variable (arg9 : Memref sig .tc .vmem S3x256x1920 .bf16) (arg1 : Memref sig .tc .vmem S256x1920 .bf16)
  (arg7 : Memref sig .tc .vmem S256x1920 .fp8e4m3) (harg7 : arg7.IsWhole)
  (arg8 : Memref sig .tc .vmem S256x128 .f32) (harg8 : arg8.IsWhole) (harg9 : arg9.IsWhole)
  (X : Vec F S256x1920 .bf16)

/-- Row block `r` of the pixels. -/
abbrev rectR {r : ℕ} (hr : r < 16) : Rect S256x1920 := Rect.unit (s := S256x1920) ![16 * r, 0] S16x1920.size (inbR hr)
/-- Row block `r` of the scales. -/
abbrev rectC {r : ℕ} (hr : r < 16) : Rect S256x128 := Rect.unit (s := S256x128) ![16 * r, 0] S16x128.size (inbC hr)
/-- Row block `r` of plane `dx` of the pixel scratch. -/
abbrev rectP {dx r : ℕ} (hx : dx < 3) (hr : r < 16) : Rect S3x256x1920 :=
  Rect.unit (s := S3x256x1920) ![dx, 16 * r, 0] S1x16x1920.size (inbP hx hr)

/-- The codes after the first `n` row blocks. -/
def put7 (C7 : Vec F S256x1920 .fp8e4m3) : (n : ℕ) → n ≤ 16 → Vec F S256x1920 .fp8e4m3
  | 0, _ => C7
  | n + 1, h => (rectR h).overlay (put7 C7 n (Nat.le_of_succ_le h)) (codesB (View.ld X (rectR h)))
/-- The scales after them. -/
def put8 (C8 : Vec F S256x128 .f32) : (n : ℕ) → n ≤ 16 → Vec F S256x128 .f32
  | 0, _ => C8
  | n + 1, h => (rectC h).overlay (put8 C8 n (Nat.le_of_succ_le h)) (scaleB (View.ld X (rectR h)))
/-- The pixel scratch after them. -/
def put9 (C9 : Vec F S3x256x1920 .bf16) : (n : ℕ) → n ≤ 16 → Vec F S3x256x1920 .bf16
  | 0, _ => C9
  | n + 1, h => (rectP (dx := 2) (by omega) h).overlay ((rectP (dx := 1) (by omega) h).overlay ((rectP (dx := 0) (by omega) h).overlay
      (put9 C9 n (Nat.le_of_succ_le h)) (xsB 0 (View.ld X (rectR h)))) (xsB 1 (View.ld X (rectR h)))) (xsB 2 (View.ld X (rectR h)))

/-- Running the first `n` row blocks. -/
theorem quant_spec {c : Dev nD} {E : Set ℕ} {K : PUnit → sProp 𝕄} (C7 : Vec F S256x1920 .fp8e4m3) (C8 : Vec F S256x128 .f32) (C9 : Vec F S3x256x1920 .bf16) :
    ∀ (n : ℕ) (h : n ≤ 16) (k : Body F),
    iprop(owns (c : Thread nD τ) arg1 fullShare X ∗ owns (c : Thread nD τ) arg7 fullShare C7 ∗ owns (c : Thread nD τ) arg8 fullShare C8
        ∗ owns (c : Thread nD τ) arg9 fullShare C9)
      ⊢ iprop(((owns (c : Thread nD τ) arg1 fullShare X ∗ owns (c : Thread nD τ) arg7 fullShare (put7 X C7 n h)
            ∗ owns (c : Thread nD τ) arg8 fullShare (put8 X C8 n h) ∗ owns (c : Thread nD τ) arg9 fullShare (put9 X C9 n h))
          -∗ wp frame (wpE (defs₀ (F := F)) Variants.none c none) E k K)
        -∗ wp frame (wpE (defs₀ (F := F)) Variants.none c none) E (quant arg9 arg1 arg7 harg7 arg8 harg9 n h k) K) := by
  intro n
  induction n with
  | zero =>
    intro h k
    iintro H Hk
    iapply Hk; iexact H
  | succ n ih =>
    intro h k
    iintro H Hk
    unfold quant
    iapply (ih (Nat.le_of_succ_le h) _) $$ H
    iintro ⟨H1, H7, H8, H9⟩
    unfold rows putSeen
    iapply (load_owns c arg1 (rectR h)) $$ H1
    iintro H1
    iapply (load_owns c arg7 (rectR h)) $$ H7
    iintro H7
    iapply (store_owns c arg7 (rectR h) (codesB (View.ld X (rectR h)))) $$ H7
    iintro H7
    iapply (load_owns c arg8 (rectC h)) $$ H8
    iintro H8
    iapply (store_owns c arg8 (rectC h) (scaleB (View.ld X (rectR h)))) $$ H8
    iintro H8
    iapply (load_owns c arg9 (rectP (dx := 0) (by omega) h)) $$ H9
    iintro H9
    iapply (store_owns c arg9 (rectP (dx := 0) (by omega) h) (xsB 0 (View.ld X (rectR h)))) $$ H9
    iintro H9
    iapply (load_owns c arg9 (rectP (dx := 1) (by omega) h)) $$ H9
    iintro H9
    iapply (store_owns c arg9 (rectP (dx := 1) (by omega) h) (xsB 1 (View.ld X (rectR h)))) $$ H9
    iintro H9
    iapply (load_owns c arg9 (rectP (dx := 2) (by omega) h)) $$ H9
    iintro H9
    iapply (store_owns c arg9 (rectP (dx := 2) (by omega) h) (xsB 2 (View.ld X (rectR h)))) $$ H9
    iintro H9
    iapply Hk
    isplitl [H1]; · iexact H1
    isplitl [H7]; · iexact H7
    isplitl [H8]; · iexact H8
    iexact H9

end Quant

end Cert.KernelIdeal.Rolled

end
-- ==== Proof.Contents.lean ====
/- What the loops leave in the buffers, index by index and whatever the buffers held before: the weight scratch of one tap
   (`weights`), the codes, the scales and the three planes of the pixel scratch (`codes`, `scales`, `pixels`), and the sum over
   the taps (`sumOver`). -/
module

public import proofs.«01_k».proof.Proof.Steps
public import Idealize.ShloMosaic.Lib.ValueIdx

@[expose] public section

set_option maxRecDepth 65536

noncomputable section

namespace Cert.KernelIdeal.Rolled

open Idealize.ShloMosaic Cert.KernelIdeal Cert.KernelIdeal.Gen Idealize.ShloMosaic.ValueIdx

variable {F : FTy → Type} [FloatOps F]

/-! ## A payload laid over contents, at coordinates -/

/-- Inside the rectangle the payload is read. -/
theorem overlay_hit {s : Shape} {α : Type} (r : Rect s) (X : s.Idx → α) (w : r.shape.Idx → α) (y : s.Idx) (x : r.shape.Idx)
    (h : ∀ a, (y a).val = r.off a + r.stride a * (x a).val) : r.overlay X w y = w x := by
  rw [← r.emb_eq_of_coords x y h, Rect.overlay_emb]

/-- Outside it, told by one axis, the contents are. -/
theorem overlay_miss {s : Shape} {α : Type} (r : Rect s) (X : s.Idx → α) (w : r.shape.Idx → α) (y : s.Idx) (a : Fin s.rank) (o n : ℕ)
    (ho : r.off a = o) (hst : r.stride a = 1) (hn : r.size a = n) (h : (y a).val < o ∨ o + n ≤ (y a).val) : r.overlay X w y = X y :=
  r.overlay_of_not_mem X w (r.not_mem_set_of_axis y a o n ho hst hn h)

section Weights

variable (W : Vec F S3x3x960x256 .i8) (S : Vec F S30x256 .f32)

/-- The weights of one tap: rows `64 g … 64 g + 31` are group `g`'s low nibbles, the next thirty-two its high nibbles. -/
def weights {dy dx : ℕ} (hy : dy < 3) (hx : dx < 3) : Vec F S1920x256 .bf16 := fun j =>
  if (j 0).val % 64 < 32 then
    lowHalf W S hy hx (g := (j 0).val / 64) (by have := idx2_lt0 j; omega) (ix2 ⟨(j 0).val % 32, by omega⟩ (j 1))
  else highHalf W S hy hx (g := (j 0).val / 64) (by have := idx2_lt0 j; omega) (ix2 ⟨(j 0).val % 32, by omega⟩ (j 1))

/-- After `n` groups the first `64 n` rows hold the weights. -/
theorem filled_apply {dy dx : ℕ} (hy : dy < 3) (hx : dx < 3) (D : Vec F S1920x256 .bf16) :
    ∀ (n : ℕ) (h : n ≤ 30) (j : S1920x256.Idx), (j 0).val < 64 * n → filled W S hy hx D n h j = weights W S hy hx j := by
  intro n
  induction n with
  | zero => intro h j hj; omega
  | succ n ih =>
    intro h j hj
    show Rect.overlay _ (Rect.overlay _ _ _) _ j = _
    by_cases h1 : 64 * n + 32 ≤ (j 0).val
    · have e : (j 0).val / 64 = n := by omega
      have e' : ¬ (j 0).val % 64 < 32 := by omega
      rw [overlay_hit (rectD (r := 2 * n + 1) (by omega)) _ _ j (ix2 ⟨(j 0).val % 32, by omega⟩ (j 1))]
      · unfold weights
        rw [if_neg e']
        subst e
        rfl
      · intro a
        fin_cases a
        · show (j 0).val = 32 * (2 * n + 1) + 1 * ((j 0).val % 32)
          omega
        · show (j 1).val = 0 + 1 * (j 1).val
          omega
    · rw [overlay_miss (rectD (r := 2 * n + 1) (by omega)) _ _ j 0 (32 * (2 * n + 1)) 32 rfl rfl rfl (.inl (by omega))]
      by_cases h2 : 64 * n ≤ (j 0).val
      · have e : (j 0).val / 64 = n := by omega
        have e' : (j 0).val % 64 < 32 := by omega
        rw [overlay_hit (rectD (r := 2 * n) (by omega)) _ _ j (ix2 ⟨(j 0).val % 32, by omega⟩ (j 1))]
        · unfold weights
          rw [if_pos e']
          subst e
          rfl
        · intro a
          fin_cases a
          · show (j 0).val = 32 * (2 * n) + 1 * ((j 0).val % 32)
            omega
          · show (j 1).val = 0 + 1 * (j 1).val
            omega
      · rw [overlay_miss (rectD (r := 2 * n) (by omega)) _ _ j 0 (32 * (2 * n)) 32 rfl rfl rfl (.inl (by omega))]
        exact ih _ j (by omega)

/-- After all thirty groups the scratch holds the weights. -/
theorem filled_all {dy dx : ℕ} (hy : dy < 3) (hx : dx < 3) (D : Vec F S1920x256 .bf16) :
    filled W S hy hx D 30 le_rfl = weights W S hy hx :=
  funext fun j => filled_apply W S hy hx D 30 le_rfl j (by have := idx2_lt0 j; omega)

variable (X : Vec F S3x256x1920 .bf16)

/-- The sum over the first `n` taps. -/
def sumOver : (n : ℕ) → n ≤ 9 → FVec F S256x256 .f32
  | 0, _ => broadcast S256x256 (Scalar.ofBits .f32 0x00000000#32)
  | n + 1, h => addTap (n / 3) (sumOver n (Nat.le_of_succ_le h)) (View.ld X (rectX (dx := n % 3) (by omega)))
      (weights W S (dy := n / 3) (dx := n % 3) (by omega) (by omega))

/-- A read of the whole weight scratch. -/
theorem ld_whole (D : Vec F S1920x256 .bf16) :
    View.ld D (Rect.unit (s := S1920x256) ![0, 0] S1920x256.size inb_S1920x256_S1920x256_0_0) = D := by
  funext j
  show D _ = D j
  congr 1
  funext a
  fin_cases a
  · exact Fin.ext (by show 0 + 1 * (j 0).val = (j 0).val; omega)
  · exact Fin.ext (by show 0 + 1 * (j 1).val = (j 1).val; omega)

/-- The sum does not depend on what the weight scratch held before. -/
theorem sumTaps_snd (D : Vec F S1920x256 .bf16) : ∀ (n : ℕ) (h : n ≤ 9), (sumTaps W S X D n h).2 = sumOver W S X n h := by
  intro n
  induction n with
  | zero => intro h; rfl
  | succ n ih =>
    intro h
    simp only [sumTaps, sumOver]
    rw [ih, ld_whole, filled_all]

variable (C B : Vec F S1x256 .f32)

/-- A read of a whole lane vector. -/
theorem ld_rectV (D : Vec F S1x256 .f32) : View.ld D rectV = D := by
  funext j
  show D _ = D j
  congr 1
  funext a
  fin_cases a
  · exact Fin.ext (by show 0 + 1 * (j 0).val = (j 0).val; omega)
  · exact Fin.ext (by show 0 + 1 * (j 1).val = (j 1).val; omega)

/-- The result block is the epilogue of the sum over the nine taps. -/
theorem result_eq (Y : Vec F S256x256 .bf16) (D : Vec F S1920x256 .bf16) :
    result W S X C B Y D = outBlock (sumOver W S X 9 le_rfl) C B := by
  funext j
  unfold result
  rw [sumTaps_snd, ld_rectV, ld_rectV]
  refine overlay_hit rectY _ _ j j fun a => ?_
  fin_cases a
  · show (j 0).val = 0 + 1 * (j 0).val
    omega
  · show (j 1).val = 0 + 1 * (j 1).val
    omega

end Weights

section Quant

variable (X : Vec F S256x1920 .bf16)

/-- The codes of every row, sixteen rows at a time. -/
def codes : Vec F S256x1920 .fp8e4m3 := fun j =>
  codesB (View.ld X (rectR (r := (j 0).val / 16) (by have := idx2_lt0 j; omega))) (ix2 ⟨(j 0).val % 16, by omega⟩ (j 1))
/-- The scales of every row. -/
def scales : Vec F S256x128 .f32 := fun j =>
  scaleB (View.ld X (rectR (r := (j 0).val / 16) (by have := idx2_lt0 j; omega))) (ix2 ⟨(j 0).val % 16, by omega⟩ (j 1))
/-- The three planes of pixels. -/
def pixels : Vec F S3x256x1920 .bf16 := fun j =>
  xsB (j 0).val (View.ld X (rectR (r := (j 1).val / 16) (by have : (j 1).val < 256 := (j 1).isLt; omega)))
    (ix3 (0 : Fin 1) ⟨(j 1).val % 16, by omega⟩ (j 2))

theorem put7_apply (C7 : Vec F S256x1920 .fp8e4m3) :
    ∀ (n : ℕ) (h : n ≤ 16) (j : S256x1920.Idx), (j 0).val < 16 * n → put7 X C7 n h j = codes X j := by
  intro n
  induction n with
  | zero => intro h j hj; omega
  | succ n ih =>
    intro h j hj
    show Rect.overlay _ _ _ j = _
    by_cases h1 : 16 * n ≤ (j 0).val
    · have e : (j 0).val / 16 = n := by omega
      rw [overlay_hit (rectR (r := n) h) _ _ j (ix2 ⟨(j 0).val % 16, by omega⟩ (j 1))]
      · unfold codes
        subst e
        rfl
      · intro a
        fin_cases a
        · show (j 0).val = 16 * n + 1 * ((j 0).val % 16)
          omega
        · show (j 1).val = 0 + 1 * (j 1).val
          omega
    · rw [overlay_miss (rectR (r := n) h) _ _ j 0 (16 * n) 16 rfl rfl rfl (.inl (by omega))]
      exact ih _ j (by omega)

theorem put8_apply (C8 : Vec F S256x128 .f32) :
    ∀ (n : ℕ) (h : n ≤ 16) (j : S256x128.Idx), (j 0).val < 16 * n → put8 X C8 n h j = scales X j := by
  intro n
  induction n with
  | zero => intro h j hj; omega
  | succ n ih =>
    intro h j hj
    show Rect.overlay _ _ _ j = _
    by_cases h1 : 16 * n ≤ (j 0).val
    · have e : (j 0).val / 16 = n := by omega
      rw [overlay_hit (rectC (r := n) h) _ _ j (ix2 ⟨(j 0).val % 16, by omega⟩ (j 1))]
      · unfold scales
        subst e
        rfl
      · intro a
        fin_cases a
        · show (j 0).val = 16 * n + 1 * ((j 0).val % 16)
          omega
        · show (j 1).val = 0 + 1 * (j 1).val
          omega
    · rw [overlay_miss (rectC (r := n) h) _ _ j 0 (16 * n) 16 rfl rfl rfl (.inl (by omega))]
      exact ih _ j (by omega)

/-- One plane's block laid over contents that hold the earlier rows: where it is read, and where it is not. -/
theorem plane_hit {dx r : ℕ} (hx : dx < 3) (hr : r < 16) (Y : Vec F S3x256x1920 .bf16) (j : S3x256x1920.Idx)
    (h0 : (j 0).val = dx) (h1 : (j 1).val / 16 = r) :
    (rectP hx hr).overlay Y (xsB dx (View.ld X (rectR hr))) j = pixels X j := by
  have hj : (j 1).val < 256 := (j 1).isLt
  rw [overlay_hit (rectP hx hr) _ _ j (ix3 (0 : Fin 1) ⟨(j 1).val % 16, by omega⟩ (j 2))]
  · unfold pixels
    subst h1
    subst h0
    rfl
  · intro a
    fin_cases a
    · show (j 0).val = dx + 1 * 0
      omega
    · show (j 1).val = 16 * r + 1 * ((j 1).val % 16)
      omega
    · show (j 2).val = 0 + 1 * (j 2).val
      omega

theorem plane_miss {dx r : ℕ} (hx : dx < 3) (hr : r < 16) (Y : Vec F S3x256x1920 .bf16) (w : Vec F S1x16x1920 .bf16) (j : S3x256x1920.Idx)
    (h : (j 0).val ≠ dx ∨ (j 1).val < 16 * r) : (rectP hx hr).overlay Y w j = Y j := by
  rcases h with h | h
  · exact overlay_miss (rectP hx hr) _ _ j 0 dx 1 rfl rfl rfl (by omega)
  · exact overlay_miss (rectP hx hr) _ _ j 1 (16 * r) 16 rfl rfl rfl (.inl h)

theorem put9_apply (C9 : Vec F S3x256x1920 .bf16) :
    ∀ (n : ℕ) (h : n ≤ 16) (j : S3x256x1920.Idx), (j 1).val < 16 * n → put9 X C9 n h j = pixels X j := by
  intro n
  induction n with
  | zero => intro h j hj; omega
  | succ n ih =>
    intro h j hj
    have h3 : (j 0).val < 3 := (j 0).isLt
    show Rect.overlay _ (Rect.overlay _ (Rect.overlay _ _ _) _) _ j = _
    by_cases h1 : 16 * n ≤ (j 1).val
    · have e : (j 1).val / 16 = n := by omega
      by_cases c2 : (j 0).val = 2
      · exact plane_hit X (dx := 2) (by omega) h _ j c2 e
      rw [plane_miss (dx := 2) (by omega) h _ _ j (.inl c2)]
      by_cases c1 : (j 0).val = 1
      · exact plane_hit X (dx := 1) (by omega) h _ j c1 e
      rw [plane_miss (dx := 1) (by omega) h _ _ j (.inl c1)]
      exact plane_hit X (dx := 0) (by omega) h _ j (by omega) e
    · rw [plane_miss (dx := 2) (by omega) h _ _ j (.inr (by omega)), plane_miss (dx := 1) (by omega) h _ _ j (.inr (by omega)),
        plane_miss (dx := 0) (by omega) h _ _ j (.inr (by omega))]
      exact ih _ j (by omega)

/-- After the sixteen row blocks the arrays hold the codes, the scales and the pixels. -/
theorem put7_all (C7 : Vec F S256x1920 .fp8e4m3) : put7 X C7 16 le_rfl = codes X :=
  funext fun j => put7_apply X C7 16 le_rfl j (by have := idx2_lt0 j; omega)
theorem put8_all (C8 : Vec F S256x128 .f32) : put8 X C8 16 le_rfl = scales X :=
  funext fun j => put8_apply X C8 16 le_rfl j (by have := idx2_lt0 j; omega)
theorem put9_all (C9 : Vec F S3x256x1920 .bf16) : put9 X C9 16 le_rfl = pixels X :=
  funext fun j => put9_apply X C9 16 le_rfl j (by have : (j 1).val < 256 := (j 1).isLt; omega)

end Quant

end Cert.KernelIdeal.Rolled

end
-- ==== Proof.Region.lean ====
/- The pipeline's run of the body: what each point leaves in each result's buffer, what the pixel scratch carries from the
   first point on, and so the run of the whole program with each result array named. -/
module

public import proofs.«01_k».proof.Proof.Contents
public import Idealize.ShloMosaic.Lib.Claim

@[expose] public section

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Rolled

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch, the idle points, the staging memrefs -/

/-- The body's branch is taken at the first point only. -/
theorem cond_iff : ∀ t : Fin cfg0.N, k0_cond1 (grid0.coords t) = 1#1 ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [k0_cond1, e0]
    word_cmp
   : ∀ t : Fin grid0.N, k0_cond1 (grid0.coords t) = 1#1 ↔ t.val % 5 = 0)

/-- The first six windows are live at every point; -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
/-- the codes and the scales at the first point only. -/
theorem live6 (t : Fin cfg0.N) (h : t.val % 5 = 0) : cfg0.idle 6 (grid0.coords t) = false := by
  show (!(k0_cond1 (grid0.coords t) == 1#1)) = false
  rw [(cond_iff t).mpr h]; rfl
theorem live7 (t : Fin cfg0.N) (h : t.val % 5 = 0) : cfg0.idle 7 (grid0.coords t) = false := by
  show (!(k0_cond1 (grid0.coords t) == 1#1)) = false
  rw [(cond_iff t).mpr h]; rfl
theorem idle6 (t : Fin cfg0.N) (h : ¬ t.val % 5 = 0) : cfg0.idle 6 (grid0.coords t) = true := by
  show (!(k0_cond1 (grid0.coords t) == 1#1)) = true
  rw [beq_eq_false_iff_ne.mpr fun e => h ((cond_iff t).mp e)]; rfl
theorem idle7 (t : Fin cfg0.N) (h : ¬ t.val % 5 = 0) : cfg0.idle 7 (grid0.coords t) = true := by
  show (!(k0_cond1 (grid0.coords t) == 1#1)) = true
  rw [beq_eq_false_iff_ne.mpr fun e => h ((cond_iff t).mp e)]; rfl

/-- Each window's current staging memref at point `t`. -/
abbrev ms0 (t : Fin cfg0.N) : Memref sig .tc .vmem S256x1920 .bf16 := win0_0.stage (cfg0.slots t 0)
abbrev ms1 (t : Fin cfg0.N) : Memref sig .tc .vmem S3x3x960x256 .i8 := win0_1.stage (cfg0.slots t 1)
abbrev ms2 (t : Fin cfg0.N) : Memref sig .tc .vmem S30x256 .f32 := win0_2.stage (cfg0.slots t 2)
abbrev ms3 (t : Fin cfg0.N) : Memref sig .tc .vmem S1x256 .f32 := win0_3.stage (cfg0.slots t 3)
abbrev ms4 (t : Fin cfg0.N) : Memref sig .tc .vmem S1x256 .f32 := win0_4.stage (cfg0.slots t 4)
abbrev ms5 (t : Fin cfg0.N) : Memref sig .tc .vmem S256x256 .bf16 := win0_5.stage (cfg0.slots t 5)
abbrev ms6 (t : Fin cfg0.N) : Memref sig .tc .vmem S256x1920 .fp8e4m3 := win0_6.stage (cfg0.slots t 6)
abbrev ms7 (t : Fin cfg0.N) : Memref sig .tc .vmem S256x128 .f32 := win0_7.stage (cfg0.slots t 7)
/-- The pixel scratch and the weight scratch. -/
abbrev sc0 : Memref sig .tc .vmem S3x256x1920 .bf16 := Memref.whole cc0_scratch0
abbrev sc1 : Memref sig .tc .vmem S1920x256 .bf16 := Memref.whole cc0_scratch1

/-- What the region hands the body beside the windows: both scratch buffers at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## The proof data -/

/-- The pixels every point's convolution reads. -/
def pix (c : Dev nD) : Vec F S3x256x1920 .bf16 := pixels (iblk m c 0 t0_0)
/-- The result block of point `t`. -/
def yblk (c : Dev nD) (t : Fin cfg0.N) : Vec F S256x256 .bf16 :=
  outBlock (sumOver (iblk m c 1 t) (iblk m c 2 t) (pix m c) 9 le_rfl) (iblk m c 3 t) (iblk m c 4 t)

/-- The pixel scratch: anything before the first point, the pixels after it. -/
def carried (c : Dev nD) (n : ℕ) : sProp 𝕄 :=
  if n = 0 then iprop(∃ d, owns (c : Thread nD τ) sc0 fullShare d) else owns (c : Thread nD τ) sc0 fullShare (pix m c)

/-- The proof data: the inputs stay, window 5 takes its point's result block, windows 6 and 7 the codes and the scales. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yblk m c t
    | ⟨6, _⟩ => codes (iblk m c 0 t0_0)
    | ⟨7, _⟩ => scales (iblk m c 0 t0_0)
  Φ t := iprop(iprop(carried m c t.val ∗ (∃ d, owns (c : Thread nD τ) sc1 fullShare d)) ∗ (∃ r, prngReg c r))
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = yblk m c t := by dsimp only [dats]
theorem after6 (c : Dev nD) (t : Fin cfg0.N) : (dats m 0 c).after 6 t = codes (iblk m c 0 t0_0) := by dsimp only [dats]
theorem after7 (c : Dev nD) (t : Fin cfg0.N) : (dats m 0 c).after 7 t = scales (iblk m c 0 t0_0) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- After the first point the codes' buffer holds the codes, as the first point left them. -/
theorem before6 (c : Dev nD) (d) : ∀ (n : ℕ) (h : n < cfg0.N), n ≠ 0 → (dats m 0 c).before 6 ⟨n, h⟩ d = codes (iblk m c 0 t0_0) := by
  intro n
  induction n with
  | zero => intro h h0; exact absurd rfl h0
  | succ n ih =>
    intro h _
    have hN : n + 1 < 5 := Nat.lt_of_lt_of_eq h N_0
    have hn : n < cfg0.N := Nat.lt_of_succ_lt h
    rw [(dats m 0 c).before_of_pos 6 ⟨n + 1, h⟩ (Nat.succ_ne_zero n) rfl d]
    show (if (cfg0.win 6).flush ⟨n, hn⟩ = true then d else (dats m 0 c).left 6 ⟨n, hn⟩ d) = _
    rw [if_neg (fun e => by have e' := (flush0_6 ⟨n, hn⟩).mp e; simp only at e'; omega)]
    unfold Dat.left
    by_cases h0 : n = 0
    · rw [show cfg0.idle 6 (cfg0.grid.coords ⟨n, hn⟩) = false from live6 ⟨n, hn⟩ (by show n % 5 = 0; omega)]
      show (cfg0.win 6).fill _ d ((cfg0.win 6).cut _ ((dats m 0 c).after 6 ⟨n, hn⟩)) = _
      rw [after6]
      rw [Pipeline.fill_of_clip_none (cfg := cfg0) 6 _ (fun _ => rfl) d (codes (iblk m c 0 t0_0)), Window.fill_cut]
    · rw [show cfg0.idle 6 (cfg0.grid.coords ⟨n, hn⟩) = true from idle6 ⟨n, hn⟩ (by show ¬ n % 5 = 0; omega)]
      exact ih hn h0

/-- After the first point the scales' buffer holds the scales, as the first point left them. -/
theorem before7 (c : Dev nD) (d) : ∀ (n : ℕ) (h : n < cfg0.N), n ≠ 0 → (dats m 0 c).before 7 ⟨n, h⟩ d = scales (iblk m c 0 t0_0) := by
  intro n
  induction n with
  | zero => intro h h0; exact absurd rfl h0
  | succ n ih =>
    intro h _
    have hN : n + 1 < 5 := Nat.lt_of_lt_of_eq h N_0
    have hn : n < cfg0.N := Nat.lt_of_succ_lt h
    rw [(dats m 0 c).before_of_pos 7 ⟨n + 1, h⟩ (Nat.succ_ne_zero n) rfl d]
    show (if (cfg0.win 7).flush ⟨n, hn⟩ = true then d else (dats m 0 c).left 7 ⟨n, hn⟩ d) = _
    rw [if_neg (fun e => by have e' := (flush0_7 ⟨n, hn⟩).mp e; simp only at e'; omega)]
    unfold Dat.left
    by_cases h0 : n = 0
    · rw [show cfg0.idle 7 (cfg0.grid.coords ⟨n, hn⟩) = false from live7 ⟨n, hn⟩ (by show n % 5 = 0; omega)]
      show (cfg0.win 7).fill _ d ((cfg0.win 7).cut _ ((dats m 0 c).after 7 ⟨n, hn⟩)) = _
      rw [after7]
      rw [Pipeline.fill_of_clip_none (cfg := cfg0) 7 _ (fun _ => rfl) d (scales (iblk m c 0 t0_0)), Window.fill_cut]
    · rw [show cfg0.idle 7 (cfg0.grid.coords ⟨n, hn⟩) = true from idle7 ⟨n, hn⟩ (by show ¬ n % 5 = 0; omega)]
      exact ih hn h0

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body's triple at any point: at the first it fills the codes, the scales and the pixels and then convolves; at the others
    it convolves the pixels it finds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.castSucc = iprop(iprop(carried m c t.val ∗ (∃ d, owns (c : Thread nD τ) sc1 fullShare d)) ∗ (∃ r, prngReg c r)) from rfl]
  rw [show (dats m 0 c).Φ t.succ = iprop(iprop(owns (c : Thread nD τ) sc0 fullShare (pix m c) ∗ (∃ d, owns (c : Thread nD τ) sc1 fullShare d)) ∗ (∃ r, prngReg c r)) from by
    show iprop(iprop(carried m c (t.val + 1) ∗ _) ∗ _) = _
    unfold carried; rw [if_neg (Nat.succ_ne_zero _)]]
  have hN : t.val < 5 := lt_of_lt_of_eq t.isLt (show cfg0.N = 5 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val % 5 = 0
  · have ht : t = t0_0 := Fin.ext (by show t.val = 0; omega)
    rw [show (dats m 0 c).leavesExact 6 t = owns (c : Thread nD τ) (ms6 t) fullShare ((dats m 0 c).after 6 t) from by
      unfold Dat.leavesExact; rw [live6 t h0], after6]
    rw [show (dats m 0 c).leavesExact 7 t = owns (c : Thread nD τ) (ms7 t) fullShare ((dats m 0 c).after 7 t) from by
      unfold Dat.leavesExact; rw [live7 t h0], after7]
    rw [show carried (F := F) m c t.val = iprop(∃ d, owns (c : Thread nD τ) sc0 fullShare d) from if_pos (by omega)]
    rw [body_of _ _ _ _ _ _ _ _ _ _ _ _ _ _ _ _ _ _ _ _ _ ((cond_iff t).mpr h0)]
    iintro ⟨⟨⟨⟨%e9, H9⟩, ⟨%e10, H10⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (quant_spec sc0 (ms0 t) (ms6 t) (hstage0_6 ((cfg0.slots t 6).cast nbuf0_6)) (ms7 t) (Memref.isWhole_whole _) (iblk m c 0 t) _ _ _ 16 le_rfl _) $$ [H0 H6 H7 H9]
    · isplitl [H0]; · iexact H0
      isplitl [H6]; · iexact H6
      isplitl [H7]; · iexact H7
      iexact H9
    rw [put7_all, put8_all, put9_all]
    iintro ⟨H0, H6, H7, H9⟩
    iapply (conv_spec (ms1 t) (ms2 t) sc0 sc1 (Memref.isWhole_whole _) (iblk m c 1 t) (iblk m c 2 t) (pixels (iblk m c 0 t)) (ms3 t) (ms4 t) (ms5 t) (hstage0_5 ((cfg0.slots t 5).cast nbuf0_5)) (iblk m c 3 t) (iblk m c 4 t) _ _) $$ [H1 H2 H9 H10 H3 H4 H5]
    · isplitl [H1]; · iexact H1
      isplitl [H2]; · iexact H2
      isplitl [H9]; · iexact H9
      isplitl [H10]; · iexact H10
      isplitl [H3]; · iexact H3
      isplitl [H4]; · iexact H4
      iexact H5
    rw [result_eq]
    rw [show pixels (iblk m c 0 t) = pix m c from by rw [ht]; rfl]
    rw [show iblk m c 0 t0_0 = iblk m c 0 t from by rw [ht]]
    iintro ⟨H1, H2, H9, H10, H3, H4, H5⟩
    isplitl [H9 H10 Hg]
    · isplitl [H9 H10]
      · isplitl [H9]
        · iexact H9
        iexists _; iexact H10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hne : t.val ≠ 0 := by omega
    rw [show carried (F := F) m c t.val = owns (c : Thread nD τ) sc0 fullShare (pix m c) from if_neg hne]
    have hb6 : ∀ d, (dats m 0 c).before 6 t d = codes (iblk m c 0 t0_0) := fun d => before6 m c d t.val t.isLt hne
    have hb7 : ∀ d, (dats m 0 c).before 7 t d = scales (iblk m c 0 t0_0) := fun d => before7 m c d t.val t.isLt hne
    have hl6 : owns (c : Thread nD τ) (ms6 t) fullShare (codes (iblk m c 0 t0_0)) ⊢ ((dats m 0 c).leavesExact 6 t : sProp 𝕄) := by
      cases hf : (cfg0.win 6).flush t
      · rw [(dats m 0 c).leavesExact_idle 6 t (idle6 t h0) hf]
        iintro H; iexists (fun _ => Classical.choice inferInstance); rw [hb6]; iexact H
      · unfold Dat.leavesExact
        rw [show cfg0.idle 6 (cfg0.grid.coords t) = true from idle6 t h0, hf, ← after6 m c t]
    have hl7 : owns (c : Thread nD τ) (ms7 t) fullShare (scales (iblk m c 0 t0_0)) ⊢ ((dats m 0 c).leavesExact 7 t : sProp 𝕄) := by
      cases hf : (cfg0.win 7).flush t
      · rw [(dats m 0 c).leavesExact_idle 7 t (idle7 t h0) hf]
        iintro H; iexists (fun _ => Classical.choice inferInstance); rw [hb7]; iexact H
      · unfold Dat.leavesExact
        rw [show cfg0.idle 7 (cfg0.grid.coords t) = true from idle7 t h0, hf, ← after7 m c t]
    simp only [hb6, hb7]
    rw [body_of_not _ _ _ _ _ _ _ _ _ _ _ _ _ _ _ _ _ _ _ _ _ (fun e => h0 ((cond_iff t).mp e))]
    iintro ⟨⟨⟨H9, ⟨%e10, H10⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (conv_spec (ms1 t) (ms2 t) sc0 sc1 (Memref.isWhole_whole _) (iblk m c 1 t) (iblk m c 2 t) (pix m c) (ms3 t) (ms4 t) (ms5 t) (hstage0_5 ((cfg0.slots t 5).cast nbuf0_5)) (iblk m c 3 t) (iblk m c 4 t) _ _) $$ [H1 H2 H9 H10 H3 H4 H5]
    · isplitl [H1]; · iexact H1
      isplitl [H2]; · iexact H2
      isplitl [H9]; · iexact H9
      isplitl [H10]; · iexact H10
      isplitl [H3]; · iexact H3
      isplitl [H4]; · iexact H4
      iexact H5
    rw [result_eq]
    iintro ⟨H1, H2, H9, H10, H3, H4, H5⟩
    isplitl [H9 H10 Hg]
    · isplitl [H9 H10]
      · isplitl [H9]
        · iexact H9
        iexists _; iexact H10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply hl6; iexact H6
    iapply hl7; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends with each array at what its windows' points wrote back, every other buffer as the region found it, and every
    semaphore counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [PhiA_eq]
      show _ ⊢ iprop(iprop(carried m c 0 ∗ _) ∗ _)
      unfold carried
      rw [if_pos rfl])
    (hout := fun c => by
      rw [PhiA_eq]
      show iprop(iprop(carried m c (Fin.last cfg0.N).val ∗ _) ∗ _) ⊢ _
      unfold carried
      rw [if_neg (by rw [Fin.val_last, show cfg0.N = 5 from N_0]; decide)]
      iintro ⟨⟨H9, H10⟩, Hg⟩
      isplitl [H9 H10]
      · isplitl [H9]
        · iexists _; iexact H9
        iexact H10
      iexact Hg)
    (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Region

end
-- ==== Proof.Same.lean ====
/- The kernel's program and its reading over the extended reals are one program, so that the second's run at any floats
   is the first's. -/
module

public import proofs.«01_k».proof.Defs
public import proofs.«01_k».proof.Proof.Gen.Kernel
public import proofs.«01_k».proof.Proof.Region

@[expose] public section

set_option maxRecDepth 65536

noncomputable section

namespace Cert.Same

open Idealize.ShloMosaic Idealize.SL.Sem

variable {F : FTy → Type} [FloatOps F]

/-- The two bodies are the same operations. -/
theorem body_eq : @Cert.Kernel.cc0__body F _ Cert.Kernel.Gen.facts = @Cert.KernelIdeal.cc0__body F _ Cert.KernelIdeal.Gen.facts := rfl

/-- So are the body tables, -/
theorem table_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    rw [body_eq]
    rfl
  | ⟨n + 1, h⟩, _ => exact absurd h (Nat.not_lt.2 (Nat.le_add_left _ _))

/-- with the pipeline's added too. -/
theorem defs_eq : Cert.Kernel.defs (F := F) = Cert.KernelIdeal.defs (F := F) := by
  unfold Cert.Kernel.defs Cert.KernelIdeal.defs
  rw [table_eq]
  rfl

/-- The kernel runs on its own floats, leaves its arguments as they were and every counter at zero. -/
theorem frame : Cert.quiescent_Kernel (hKernel := Cert.Kernel.Gen.facts) := fun m ρ _ => by
  rw [defs_eq]
  exact Cert.KernelIdeal.Region.frame (F := Bits) m ρ

end Cert.Same

end
-- ==== Proof.Blocks.lean ====
/- The kernel's input blocks as reads of the arguments, and each result array as what the points wrote back. -/
module

public import proofs.«01_k».proof.Proof.Region
public import Idealize.ShloMosaic.Lib.Pipeline.ValueKit
public import Idealize.ShloMosaic.Lib.Pointwise

@[expose] public section

set_option maxRecDepth 16384

noncomputable section

namespace Cert.KernelIdeal.Blocks

open Idealize.ShloMosaic Idealize.ShloMosaic.TcCoe Idealize.SL.Sem
open Idealize.ShloMosaic.Pipeline (Dat)
open Cert.KernelIdeal Cert.KernelIdeal.Gen Cert.KernelIdeal.Rolled Cert.KernelIdeal.Region

variable (m : (ℓ : Loc nD τ sig) → Buf (Elt Ideal) ℓ)

/-- Every window's block index at every point. -/
theorem idx : ∀ t : Fin cfg0.N, win0_0.index t = ![0, 0] ∧ win0_1.index t = ![0, 0, 0, t.val] ∧ win0_2.index t = ![0, t.val]
    ∧ win0_3.index t = ![0, t.val] ∧ win0_4.index t = ![0, t.val] ∧ win0_5.index t = ![0, t.val] ∧ win0_6.index t = ![0, 0]
    ∧ win0_7.index t = ![0, 0] ∧ t.val < 5 :=
  (by decide +kernel : ∀ t : Fin grid0.N, _)

/-- The rows of the image. -/
theorem in0 (c : Dev nD) (t : Fin cfg0.N) (r : Fin 256) (l : Fin 1920) :
    iblk m c 0 t (ix2 r l) = m ((c : Thread nD τ).loc main_arg0) (ix3 (⟨r.val / 128, by omega⟩ : Fin 2) (⟨r.val % 128, by omega⟩ : Fin 128) l) := by
  blk_simp [iblk]
  entry_read
  pointwise
  blk_point [V, idx t]

/-- The packed weights of column block `t`. -/
theorem in1 (c : Dev nD) (t : Fin cfg0.N) (dy dx : Fin 3) (k : Fin 960) (n : Fin 256) (N : Fin 1280) (h : N.val = t.val * 256 + n.val) :
    iblk m c 1 t (ix4 dy dx k n) = m ((c : Thread nD τ).loc main_arg1) (ix4 dy dx k N) := by
  blk_ext [iblk, V, idx t]

/-- The group scales. -/
theorem in2 (c : Dev nD) (t : Fin cfg0.N) (g : Fin 30) (n : Fin 256) (N : Fin 1280) (h : N.val = t.val * 256 + n.val) :
    iblk m c 2 t (ix2 g n) = m ((c : Thread nD τ).loc main_arg2) (ix2 g N) := by
  blk_ext [iblk, V, idx t]

/-- The channel scales. -/
theorem in3 (c : Dev nD) (t : Fin cfg0.N) (n : Fin 256) (N : Fin 1280) (h : N.val = t.val * 256 + n.val) :
    iblk m c 3 t (ix2 (0 : Fin 1) n) = m ((c : Thread nD τ).loc main_arg3) (ix1 N) := by
  blk_simp [iblk]
  entry_read
  pointwise
  blk_point [V, idx t]

/-- The bias. -/
theorem in4 (c : Dev nD) (t : Fin cfg0.N) (n : Fin 256) (N : Fin 1280) (h : N.val = t.val * 256 + n.val) :
    iblk m c 4 t (ix2 (0 : Fin 1) n) = m ((c : Thread nD τ).loc main_arg4) (ix1 N) := by
  blk_simp [iblk]
  entry_read
  pointwise
  blk_point [V, idx t]

/-- The codes' array after the run. -/
theorem final6 (c : Dev nD) (G : FVec Ideal S256x1920 .fp8e4m3)
    (h : ∀ (r : Fin 256) (l : Fin 1920), codes (F := Ideal) (iblk m c 0 t0_0) (ix2 r l) = G (ix2 r l)) :
    (dats m 0 c).arrAt 6 (cfgs 0).N = G := by
  refine (dats m 0 c).arrAt_eq_of_after_last 6 t0_4 (by decide +kernel) _ fun j => ?_
  blk_simp
  rw [after6]
  idx_vars j
  exact h j0 j1

/-- The scales' array after the run. -/
theorem final7 (c : Dev nD) (G : FVec Ideal S256x128 .f32)
    (h : ∀ (r : Fin 256) (l : Fin 128), scales (F := Ideal) (iblk m c 0 t0_0) (ix2 r l) = G (ix2 r l)) :
    (dats m 0 c).arrAt 7 (cfgs 0).N = G := by
  refine (dats m 0 c).arrAt_eq_of_after_last 7 t0_4 (by decide +kernel) _ fun j => ?_
  blk_simp
  rw [after7]
  idx_vars j
  exact h j0 j1

/-- The convolution's array after the run: each point's block of columns. -/
theorem final5 (c : Dev nD) (G : FVec Ideal S256x1280 .bf16)
    (h : ∀ (t : Fin cfg0.N) (r : Fin 256) (n : Fin 256) (N : Fin 1280), N.val = t.val * 256 + n.val → yblk m c t (ix2 r n) = G (ix2 r N)) :
    (dats m 0 c).arrAt 5 (cfgs 0).N = G := by
  refine (dats m 0 c).arrAt_eq_of_covers 5 G (by decide +kernel) fun t _ y => ?_
  blk_simp
  rw [after5]
  idx_vars y
  have ht := (idx t).2.2.2.2.2.2.2.2
  refine (h t y0 y1 ⟨t.val * 256 + y1.val, by omega⟩ rfl).trans ?_
  blk_ext [idx t]

end Cert.KernelIdeal.Blocks

end
-- ==== Proof.Ladder.lean ====
/- The scale of one row, from the row's ratio (its greatest absolute value over 448), as each program finds it: the kernel
   counts the powers of two above the ratio and writes 255 less the count as an exponent field; the reference takes the least
   power of two above the ratio. They are the same power, and multiplying by the kernel's reciprocal is dividing by it. -/
module

public import Idealize.ShloMosaic.PureOps.Ideal
public import Idealize.ShloMosaic.Lib.IdealHost

@[expose] public section

set_option maxRecDepth 16384

noncomputable section

namespace Cert.Ladder

open Idealize.ShloMosaic

/-- A power of two. -/
def pow (k : ℤ) : EReal := (((2 : ℝ) ^ k : ℝ) : EReal)

theorem pow_le {a b : ℤ} (h : a ≤ b) : pow a ≤ pow b :=
  EReal.coe_le_coe_iff.mpr (zpow_le_zpow_right₀ (by norm_num) h)
theorem pow_lt {a b : ℤ} (h : a < b) : pow a < pow b :=
  EReal.coe_lt_coe_iff.mpr (zpow_lt_zpow_right₀ (by norm_num) h)
theorem pow_pos (a : ℤ) : 0 < pow a := EReal.coe_pos.mpr (zpow_pos (by norm_num) a)

/-- The float whose exponent field is `k` and whose other bits are zero. -/
def rung (k : BitVec 32) : EReal := Ideal.ofBits .f32 (IntOp.shli .vector k 23#32)

theorem toNat_rung (k : ℕ) (hk : k < 256) : (IntOp.shli .vector (BitVec.ofNat 32 k) 23#32).toNat = k * 2 ^ 23 := by
  have : (IntOp.shli .vector (BitVec.ofNat 32 k) 23#32) = (BitVec.ofNat 32 k) <<< 23 := rfl
  rw [this, BitVec.toNat_shiftLeft, BitVec.toNat_ofNat, Nat.shiftLeft_eq]
  omega

/-- It is zero at field `0`, -/
theorem rung_zero : rung 0#32 = 0 := by
  show Ideal.ofBits .f32 0#32 = 0
  simp [Ideal.ofBits, Ideal.ieee]

/-- infinity at field `255`, -/
theorem rung_top : rung 255#32 = ⊤ := by
  show Ideal.ofBits .f32 0x7F800000#32 = ⊤
  simp [Ideal.ofBits, Ideal.ieee]

/-- and a power of two between. -/
theorem rung_pow (k : ℕ) (h0 : k ≠ 0) (h : k < 255) : rung (BitVec.ofNat 32 k) = pow (k - 127) := by
  have hb := toNat_rung k (by omega)
  unfold rung
  generalize IntOp.shli .vector (BitVec.ofNat 32 k) 23#32 = b at hb
  have h1 : (b.extractLsb' (8 + 23) 1 == 1#1) = false := by
    rw [beq_eq_false_iff_ne]
    intro e
    have := congrArg BitVec.toNat e
    rw [BitVec.extractLsb'_toNat, hb, Nat.shiftRight_eq_div_pow] at this
    simp only [BitVec.toNat_ofNat] at this
    omega
  have h2 : (b.extractLsb' 23 8).toNat = k := by
    rw [BitVec.extractLsb'_toNat, hb, Nat.shiftRight_eq_div_pow]
    omega
  have h3 : (b.extractLsb' 0 23).toNat = 0 := by
    rw [BitVec.extractLsb'_toNat, hb, Nat.shiftRight_eq_div_pow]
    omega
  show Ideal.ieee 8 23 b = _
  unfold Ideal.ieee pow
  simp only [h1, h2, h3]
  rw [if_neg (by omega), if_neg h0]
  congr 1
  rw [show ((k : ℤ) - 127) = 23 + ((k : ℤ) - (2 ^ (8 - 1) - 1) - 23) by norm_num, zpow_add₀ (by norm_num)]
  norm_num

/-- The kernel's count: 255 less how many of the 256 rungs lie above `t`. -/
def count (t : EReal) : BitVec 32 :=
  IntOp.subi 255#32 (Finset.univ.fold IntOp.addi (0#32) fun k : Fin 256 =>
    BitVec.setWidth 32 (BitVec.ofBool (decide (t < Ideal.ofBits .f32 (IntOp.shli .vector (BitVec.ofNat 32 k.val) 23#32)))))
/-- The exponent it makes of the count, -/
def expoOf (n : BitVec 32) : BitVec 32 := Scalar.select (IntOp.cmpi .eq n 0#32) (0#32) (IntOp.subi n 126#32)
/-- the scale -/
def scaleOf (n : BitVec 32) : EReal := Ideal.ofBits .f32 (IntOp.shli .vector (IntOp.addi (expoOf n) 127#32) 23#32)
/-- and the scale's reciprocal. -/
def invOf (n : BitVec 32) : EReal := Ideal.ofBits .f32 (IntOp.shli .vector (IntOp.subi 127#32 (expoOf n)) 23#32)

/-- The reference's scale: one for a ratio below the least normal number, otherwise the least power of two above the ratio. -/
def scaleR (t : EReal) : EReal :=
  if t < Ideal.ofBits .f32 8388608#32 then 1
  else Finset.univ.fold min (Ideal.ofBits .f32 2139095040#32) fun i : Fin 253 =>
    if t < FloatOps.exp2 (F := Ideal) (φ := .f32) (FloatOps.sitofp .f32 (IntOp.subi (BitVec.ofNat 32 i.val) 125#32))
    then FloatOps.exp2 (F := Ideal) (φ := .f32) (FloatOps.sitofp .f32 (IntOp.subi (BitVec.ofNat 32 i.val) 125#32))
    else Ideal.ofBits .f32 2139095040#32

/-- `n` is the exponent field of `t`. -/
structure IsField (n : ℕ) (t : EReal) : Prop where
  lt : n < 247
  nonneg : 0 ≤ t
  above : n ≠ 0 → pow (n - 127) ≤ t
  below : t < pow (n - 126)

/-- A ratio below `2 ^ 120` has one. -/
theorem exists_field (t : EReal) (h0 : 0 ≤ t) (h : t < pow 120) : ∃ n, IsField n t := by
  induction t using EReal.rec with
  | bot => exact absurd h0 (by simp)
  | top => exact absurd h (by simp)
  | coe r =>
    by_cases hr : r < (2 : ℝ) ^ (-126 : ℤ)
    · exact ⟨0, by omega, h0, fun e => absurd rfl e, EReal.coe_lt_coe_iff.mpr (by simpa using hr)⟩
    · have hr0 : 0 < r := lt_of_lt_of_le (zpow_pos (by norm_num) _) (not_lt.mp hr)
      obtain ⟨z, hz1, hz2⟩ := exists_mem_Ico_zpow hr0 (one_lt_two (α := ℝ))
      have hzl : -126 ≤ z := by
        by_contra hc
        exact hr (lt_of_lt_of_le hz2 (zpow_le_zpow_right₀ (by norm_num) (by omega)))
      have hzu : z < 120 := by
        by_contra hc
        have h' : r < (2 : ℝ) ^ (120 : ℤ) := EReal.coe_lt_coe_iff.mp h
        exact absurd h' (not_lt.mpr (le_trans (zpow_le_zpow_right₀ (by norm_num) (by omega)) hz1))
      refine ⟨(z + 127).toNat, by omega, h0, fun _ => ?_, ?_⟩
      · refine EReal.coe_le_coe_iff.mpr ?_
        rw [show (((z + 127).toNat : ℤ) - 127) = z by omega]
        exact hz1
      · refine EReal.coe_lt_coe_iff.mpr ?_
        rw [show (((z + 127).toNat : ℤ) - 126) = z + 1 by omega]
        exact hz2

/-- The rungs at or under `t` are those up to its field. -/
theorem rung_le {n : ℕ} {t : EReal} (h : IsField n t) (k : Fin 256) :
    Ideal.ofBits .f32 (IntOp.shli .vector (BitVec.ofNat 32 k.val) 23#32) ≤ t ↔ k.val ≤ n := by
  show rung (BitVec.ofNat 32 k.val) ≤ t ↔ _
  have hk := k.isLt
  have hn := h.lt
  by_cases h0 : k.val = 0
  · rw [h0]
    exact iff_of_true (by rw [show BitVec.ofNat 32 0 = 0#32 from rfl, rung_zero]; exact h.nonneg) (Nat.zero_le _)
  by_cases h1 : k.val = 255
  · rw [h1]
    refine iff_of_false ?_ (by omega)
    rw [show BitVec.ofNat 32 255 = 255#32 from rfl, rung_top, not_le]
    exact lt_of_lt_of_le h.below le_top
  rw [rung_pow _ h0 (by omega)]
  constructor
  · intro hle
    by_contra hc
    exact absurd (lt_of_le_of_lt hle h.below) (not_lt.mpr (pow_le (by omega)))
  · intro hle
    exact le_trans (pow_le (by omega)) (h.above (by omega))

theorem count_steps : ∀ n : Fin 247, IntOp.subi 255#32 (Finset.univ.fold IntOp.addi (0#32) fun k : Fin 256 =>
    BitVec.setWidth 32 (BitVec.ofBool (decide (¬ k.val ≤ n.val)))) = BitVec.ofNat 32 n.val := by
  decide +kernel

/-- So the count is the field. -/
theorem count_eq {n : ℕ} {t : EReal} (h : IsField n t) : count t = BitVec.ofNat 32 n := by
  rw [← count_steps ⟨n, h.lt⟩]
  unfold count
  congr 2
  funext k
  rw [decide_eq_decide.mpr (not_le.symm.trans (not_congr (rung_le h k)))]

/-- The power of two both programs scale by. -/
def expo (n : ℕ) : ℤ := if n = 0 then 0 else n - 126

theorem scale_word : ∀ n : Fin 247, IntOp.addi (expoOf (BitVec.ofNat 32 n.val)) 127#32 = BitVec.ofNat 32 (if n.val = 0 then 127 else n.val + 1) := by
  decide +kernel
theorem inv_word : ∀ n : Fin 247, IntOp.subi 127#32 (expoOf (BitVec.ofNat 32 n.val)) = BitVec.ofNat 32 (if n.val = 0 then 127 else 253 - n.val) := by
  decide +kernel

theorem scaleOf_eq {n : ℕ} (h : n < 247) : scaleOf (BitVec.ofNat 32 n) = pow (expo n) := by
  unfold scaleOf
  rw [scale_word ⟨n, h⟩]
  show rung (BitVec.ofNat 32 (if n = 0 then 127 else n + 1)) = _
  rw [rung_pow _ (by split_ifs <;> omega) (by split_ifs <;> omega)]
  congr 1
  unfold expo
  split_ifs <;> simp_all <;> omega
theorem invOf_eq {n : ℕ} (h : n < 247) : invOf (BitVec.ofNat 32 n) = pow (-expo n) := by
  unfold invOf
  rw [inv_word ⟨n, h⟩]
  show rung (BitVec.ofNat 32 (if n = 0 then 127 else 253 - n)) = _
  rw [rung_pow _ (by split_ifs <;> omega) (by split_ifs <;> omega)]
  congr 1
  unfold expo
  split_ifs <;> simp_all <;> omega

theorem power_word : ∀ i : Fin 253, (IntOp.subi (BitVec.ofNat 32 i.val) 125#32).toInt = (i.val : ℤ) - 125 := by
  decide +kernel

/-- The reference's powers. -/
theorem power_eq (i : Fin 253) :
    FloatOps.exp2 (F := Ideal) (φ := .f32) (FloatOps.sitofp .f32 (IntOp.subi (BitVec.ofNat 32 i.val) 125#32)) = pow (i.val - 125) := by
  show Ideal.exp2 (((IntOp.subi (BitVec.ofNat 32 i.val) 125#32).toInt : ℝ) : EReal) = _
  rw [power_word i]
  show ((Real.rpow 2 (((i.val : ℤ) - 125 : ℤ) : ℝ) : ℝ) : EReal) = _
  unfold pow
  congr 1
  exact Real.rpow_intCast 2 _

theorem inf_eq : Ideal.ofBits .f32 2139095040#32 = ⊤ := by simp [Ideal.ofBits, Ideal.ieee]
theorem least_eq : Ideal.ofBits .f32 8388608#32 = pow (-126) := by
  have := rung_pow 1 (by omega) (by omega)
  exact this

/-- The reference's scale is that power too. -/
theorem scaleR_eq {n : ℕ} {t : EReal} (h : IsField n t) : scaleR t = pow (expo n) := by
  have hn := h.lt
  unfold scaleR expo
  rw [least_eq, inf_eq]
  by_cases h0 : n = 0
  · subst h0
    rw [if_pos (by simpa using h.below), if_pos rfl]
    simp [pow]
  · rw [if_neg (not_lt.mpr (le_trans (pow_le (by omega)) (h.above h0))), if_neg h0]
    simp only [power_eq]
    apply le_antisymm
    · refine Finset.fold_min_le _ |>.mpr (.inr ⟨⟨n - 1, by omega⟩, Finset.mem_univ _, ?_⟩)
      have e : (((n - 1 : ℕ) : ℤ) - 125) = (n : ℤ) - 126 := by omega
      show (if t < pow (((n - 1 : ℕ) : ℤ) - 125) then pow (((n - 1 : ℕ) : ℤ) - 125) else ⊤) ≤ _
      rw [e, if_pos h.below]
    · refine Finset.le_fold_min _ |>.mpr ⟨le_top, fun i _ => ?_⟩
      split_ifs with hi
      · refine pow_le ?_
        by_contra hc
        exact absurd (lt_of_le_of_lt (h.above h0) hi) (not_lt.mpr (pow_le (by omega)))
      · exact le_top

/-- THE SCALES AGREE. -/
theorem scale_eq {t : EReal} (h0 : 0 ≤ t) (h : t < pow 120) : scaleOf (count t) = scaleR t := by
  obtain ⟨n, hn⟩ := exists_field t h0 h
  rw [count_eq hn, scaleOf_eq hn.lt, scaleR_eq hn]

/-- MULTIPLYING BY THE KERNEL'S RECIPROCAL IS DIVIDING BY THE REFERENCE'S SCALE. -/
theorem inv_eq {t : EReal} (h0 : 0 ≤ t) (h : t < pow 120) (x : EReal) : x * invOf (count t) = Ideal.div x (scaleR t) := by
  obtain ⟨n, hn⟩ := exists_field t h0 h
  rw [count_eq hn, invOf_eq hn.lt, scaleR_eq hn]
  unfold Ideal.div
  rw [if_neg (pow_pos _).ne']
  congr 1
  unfold pow
  rw [← EReal.coe_inv, zpow_neg]

/-- The ratio of a row: its greatest absolute value times the constant next to 1/448. -/
def ratioOf (x : Fin 1920 → EReal) : EReal :=
  Finset.univ.fold max (Ideal.ofBits .f32 4286578688#32) (fun k => FloatOps.absf (F := Ideal) (φ := .f32) (x k)) * Ideal.ofBits .f32 991054117#32

theorem const_eq : Ideal.ofBits .f32 991054117#32 = ((9586981 * (2 : ℝ) ^ (-32 : ℤ) : ℝ) : EReal) := by
  simp [Ideal.ofBits, Ideal.ieee, -EReal.coe_mul]
theorem bound_eq : Ideal.ofBits .f32 2139029504#32 = ((255 * (2 : ℝ) ^ (120 : ℤ) : ℝ) : EReal) := by
  simp [Ideal.ofBits, Ideal.ieee, -EReal.coe_mul]; norm_num

/-- A row of entries within the greatest bf16 number has a nonnegative ratio below `2 ^ 120`. -/
theorem ratio_bounds (x : Fin 1920 → EReal) (h : ∀ k, FloatOps.absf (F := Ideal) (φ := .f32) (x k) ≤ Ideal.ofBits .f32 2139029504#32) :
    0 ≤ ratioOf x ∧ ratioOf x < pow 120 := by
  unfold ratioOf
  rw [const_eq]
  have hle : Finset.univ.fold max (Ideal.ofBits .f32 4286578688#32) (fun k => FloatOps.absf (F := Ideal) (φ := .f32) (x k)) ≤ ((255 * (2 : ℝ) ^ (120 : ℤ) : ℝ) : EReal) := by
    refine Finset.fold_max_le _ |>.mpr ⟨?_, fun k _ => (h k).trans bound_eq.le⟩
    have : Ideal.ofBits .f32 4286578688#32 = ⊥ := by simp [Ideal.ofBits, Ideal.ieee]
    rw [this]; exact bot_le
  have hge : 0 ≤ Finset.univ.fold max (Ideal.ofBits .f32 4286578688#32) (fun k => FloatOps.absf (F := Ideal) (φ := .f32) (x k)) := by
    refine Finset.le_fold_max _ |>.mpr (.inr ⟨0, Finset.mem_univ _, ?_⟩)
    show 0 ≤ max (x 0) (-(x 0))
    rcases le_total 0 (x 0) with h' | h'
    · exact le_max_of_le_left h'
    · exact le_max_of_le_right (by simpa using h')
  generalize Finset.univ.fold max (Ideal.ofBits .f32 4286578688#32) (fun k => FloatOps.absf (F := Ideal) (φ := .f32) (x k)) = M at hle hge
  induction M using EReal.rec with
  | bot => exact absurd hge (by simp)
  | top => exact absurd hle (not_le.mpr (EReal.coe_lt_top _))
  | coe r =>
    have hr0 : 0 ≤ r := EReal.coe_nonneg.mp hge
    have hr : r ≤ 255 * (2 : ℝ) ^ (120 : ℤ) := EReal.coe_le_coe_iff.mp hle
    rw [← EReal.coe_mul]
    constructor
    · exact EReal.coe_nonneg.mpr (by positivity)
    · refine EReal.coe_lt_coe_iff.mpr ?_
      have : r * (9586981 * (2 : ℝ) ^ (-32 : ℤ)) ≤ (255 * (2 : ℝ) ^ (120 : ℤ)) * (9586981 * (2 : ℝ) ^ (-32 : ℤ)) :=
        mul_le_mul_of_nonneg_right hr (by positivity)
      refine lt_of_le_of_lt this ?_
      norm_num

end Cert.Ladder

end
-- ==== Proof.KRows.lean ====
/- The kernel's codes, scales and pixels at an index, over the whole array of rows. -/
module

public import proofs.«01_k».proof.Proof.Contents
public import proofs.«01_k».proof.Proof.Ladder
public import Idealize.ShloMosaic.Lib.Pointwise

@[expose] public section

set_option maxRecDepth 16384

noncomputable section

namespace Cert.KernelIdeal.Rolled

open Idealize.ShloMosaic Cert.KernelIdeal Cert.KernelIdeal.Gen

/-- The clip to ±448. -/
def clip (y : EReal) : EReal := min (Ideal.ofBits .f32 1138753536#32) (max (Ideal.ofBits .f32 3286237184#32) y)

/-- A code of a block of sixteen rows, -/
theorem codesB_at (x : Vec Ideal S16x1920 .bf16) (r : Fin 16) (l : Fin 1920) :
    codesB (F := Ideal) x (ix2 r l) = clip (x (ix2 r l) * Ladder.invOf (Ladder.count (Ladder.ratioOf fun k => x (ix2 r k)))) := by
  have hf : field (F := Ideal) x (ix2 r 0) = Ladder.count (Ladder.ratioOf fun k => x (ix2 r k)) := by
    pointwise [field, ratio, wide]
    rfl
  unfold Ladder.invOf Ladder.expoOf clip
  rw [← hf]
  pointwise [codesB, wide, invB, expo]

/-- its scale, -/
theorem scaleB_at (x : Vec Ideal S16x1920 .bf16) (r : Fin 16) (l : Fin 128) :
    scaleB (F := Ideal) x (ix2 r l) = Ladder.scaleOf (Ladder.count (Ladder.ratioOf fun k => x (ix2 r k))) := by
  have hf : field (F := Ideal) x (ix2 r l) = Ladder.count (Ladder.ratioOf fun k => x (ix2 r k)) := by
    pointwise [field, ratio, wide]
    rfl
  unfold Ladder.scaleOf Ladder.expoOf
  rw [← hf]
  pointwise [scaleB, expo]

/-- the dequantised pixels as the middle plane has them, -/
theorem xsB1_at (x : Vec Ideal S16x1920 .bf16) (r : Fin 16) (l : Fin 1920) :
    xsB (F := Ideal) 1 x (ix3 (0 : Fin 1) r l) = codesB (F := Ideal) x (ix2 r l) * scaleB (F := Ideal) x (ix2 r 0) := by
  pointwise [xsB, seen, xdB, padRow]

/-- the first plane, one pixel to the left, -/
theorem xsB0_at (x : Vec Ideal S16x1920 .bf16) (r : Fin 16) (l : Fin 1920) :
    xsB (F := Ideal) 0 x (ix3 (0 : Fin 1) r l) = if h : r.val < 1 then 0 else codesB (F := Ideal) x (ix2 ⟨r.val - 1, by omega⟩ l) * scaleB (F := Ideal) x (ix2 ⟨r.val - 1, by omega⟩ 0) := by
  pointwise [xsB, seen, xdB, padRow]

/-- and the last, one to the right. -/
theorem xsB2_at (x : Vec Ideal S16x1920 .bf16) (r : Fin 16) (l : Fin 1920) :
    xsB (F := Ideal) 2 x (ix3 (0 : Fin 1) r l) = if h : r.val < 15 then codesB (F := Ideal) x (ix2 ⟨r.val + 1, by omega⟩ l) * scaleB (F := Ideal) x (ix2 ⟨r.val + 1, by omega⟩ 0) else 0 := by
  pointwise [xsB, seen, xdB, padRow]
  simp only [Nat.add_comm 1]

variable (X : Vec Ideal S256x1920 .bf16)

theorem ldR_at {r : ℕ} (hr : r < 16) (a : Fin 16) (k : Fin 1920) (R : Fin 256) (h : 16 * r + a.val = R.val) :
    View.ld (Val := Elt Ideal) X (rectR (r := r) hr) (ix2 a k) = X (ix2 R k) := by
  show X _ = X _
  congr 1
  funext d
  fin_cases d
  · exact Fin.ext (by show 16 * r + 1 * a.val = R.val; omega)
  · exact Fin.ext (by show 0 + 1 * k.val = k.val; omega)

/-- The same over a row given otherwise. -/
theorem codesB_of (x : Vec Ideal S16x1920 .bf16) (a : Fin 16) (l : Fin 1920) (f : Fin 1920 → EReal) (h : ∀ k, x (ix2 a k) = f k) :
    codesB (F := Ideal) x (ix2 a l) = clip (f l * Ladder.invOf (Ladder.count (Ladder.ratioOf f))) := by
  obtain rfl : f = fun k => x (ix2 a k) := funext fun k => (h k).symm
  exact codesB_at x a l
theorem scaleB_of (x : Vec Ideal S16x1920 .bf16) (a : Fin 16) (l : Fin 128) (f : Fin 1920 → EReal) (h : ∀ k, x (ix2 a k) = f k) :
    scaleB (F := Ideal) x (ix2 a l) = Ladder.scaleOf (Ladder.count (Ladder.ratioOf f)) := by
  obtain rfl : f = fun k => x (ix2 a k) := funext fun k => (h k).symm
  exact scaleB_at x a l

/-- The row's count. -/
def cnt (r : Fin 256) : BitVec 32 := Ladder.count (Ladder.ratioOf fun k => X (ix2 r k))
/-- The code of one entry. -/
def code (r : Fin 256) (l : Fin 1920) : EReal := clip (X (ix2 r l) * Ladder.invOf (cnt X r))
/-- The dequantised entry. -/
def deq (r : Fin 256) (l : Fin 1920) : EReal := code X r l * Ladder.scaleOf (cnt X r)

theorem block_code {r : ℕ} (hr : r < 16) (a : Fin 16) (l : Fin 1920) (R : Fin 256) (h : 16 * r + a.val = R.val) :
    codesB (F := Ideal) (View.ld (Val := Elt Ideal) X (rectR (r := r) hr)) (ix2 a l) = code X R l :=
  codesB_of _ a l _ fun k => ldR_at X hr a k R h
theorem block_scale {r : ℕ} (hr : r < 16) (a : Fin 16) (l : Fin 128) (R : Fin 256) (h : 16 * r + a.val = R.val) :
    scaleB (F := Ideal) (View.ld (Val := Elt Ideal) X (rectR (r := r) hr)) (ix2 a l) = Ladder.scaleOf (cnt X R) :=
  scaleB_of _ a l _ fun k => ldR_at X hr a k R h

/-- A code of the whole array. -/
theorem codes_at (r : Fin 256) (l : Fin 1920) : codes (F := Ideal) X (ix2 r l) = code X r l :=
  block_code X _ _ _ r (by show 16 * (r.val / 16) + r.val % 16 = r.val; omega)
/-- A scale. -/
theorem scales_at (r : Fin 256) (l : Fin 128) : scales (F := Ideal) X (ix2 r l) = Ladder.scaleOf (cnt X r) :=
  block_scale X _ _ _ r (by show 16 * (r.val / 16) + r.val % 16 = r.val; omega)

/-- A pixel: plane `d`'s row `r` is the dequantised row `r + d - 1` where that lies in the same line of sixteen, else zero. -/
theorem pixels_at (d : Fin 3) (r : Fin 256) (l : Fin 1920) :
    pixels (F := Ideal) X (ix3 d r l) = if h : 1 ≤ r.val % 16 + d.val ∧ r.val % 16 + d.val < 17 then deq X ⟨r.val + d.val - 1, by omega⟩ l else 0 := by
  have hd := d.isLt
  have hr := r.isLt
  show xsB (F := Ideal) d.val (View.ld (Val := Elt Ideal) X (rectR (r := r.val / 16) (by omega))) (ix3 (0 : Fin 1) ⟨r.val % 16, by omega⟩ l) = _
  have e : d = 0 ∨ d = 1 ∨ d = 2 := by omega
  rcases e with rfl | rfl | rfl
  · refine (xsB0_at _ _ _).trans ?_
    by_cases h : r.val % 16 < 1
    · rw [dif_pos h, dif_neg (by show ¬ (1 ≤ r.val % 16 + 0 ∧ _); omega)]
    · rw [dif_neg h, dif_pos (by show 1 ≤ r.val % 16 + 0 ∧ r.val % 16 + 0 < 17; omega)]
      exact congrArg₂ (· * ·) (block_code X _ _ _ _ (by show 16 * (r.val / 16) + (r.val % 16 - 1) = r.val + 0 - 1; omega))
        (block_scale X _ _ _ _ (by show 16 * (r.val / 16) + (r.val % 16 - 1) = r.val + 0 - 1; omega))
  · refine (xsB1_at _ _ _).trans ?_
    rw [dif_pos (by show 1 ≤ r.val % 16 + 1 ∧ r.val % 16 + 1 < 17; omega)]
    exact congrArg₂ (· * ·) (block_code X _ _ _ _ (by show 16 * (r.val / 16) + (r.val % 16) = r.val + 1 - 1; omega))
        (block_scale X _ _ _ _ (by show 16 * (r.val / 16) + (r.val % 16) = r.val + 1 - 1; omega))
  · refine (xsB2_at _ _ _).trans ?_
    by_cases h : r.val % 16 < 15
    · rw [dif_pos h, dif_pos (by show 1 ≤ r.val % 16 + 2 ∧ r.val % 16 + 2 < 17; omega)]
      exact congrArg₂ (· * ·) (block_code X _ _ _ _ (by show 16 * (r.val / 16) + (r.val % 16 + 1) = r.val + 2 - 1; omega))
        (block_scale X _ _ _ _ (by show 16 * (r.val / 16) + (r.val % 16 + 1) = r.val + 2 - 1; omega))
    · rw [dif_neg h, dif_neg (by show ¬ (1 ≤ r.val % 16 + 2 ∧ r.val % 16 + 2 < 17); omega)]

end Cert.KernelIdeal.Rolled

end
-- ==== Proof.Nibbles.lean ====
/- The two nibbles of a packed byte: the kernel takes them inside a 32-bit word of four rows, times sixteen; the reference one
   byte at a time. The weight is the nibble times the group's scale either way. -/
module

public import Idealize.ShloMosaic.PureOps.Ideal
public import Idealize.ShloMosaic.Lib.BitcastFour
public import Idealize.ShloMosaic.Lib.IdealHost

@[expose] public section

set_option maxRecDepth 16384

noncomputable section

namespace Cert.Nibbles

open Idealize.ShloMosaic Idealize.ShloMosaic.ValueIdx

/-- The low nibble as a signed number, -/
def low (b : BitVec 8) : BitVec 32 := IntOp.subi (IntOp.xori (IntOp.andi (b.setWidth 32) 15#32) 8#32) 8#32
/-- and the high one. -/
def high (b : BitVec 8) : BitVec 32 := IntOp.subi (IntOp.xori (IntOp.andi (IntOp.shrsi .vector (b.setWidth 32) 4#32) 15#32) 8#32) 8#32

theorem low_times : ∀ b : Fin 256, ((BitVec.ofNat 8 b.val <<< 4) &&& 240#8).toInt = 16 * (low (BitVec.ofNat 8 b.val)).toInt := by
  decide +kernel
theorem high_times : ∀ b : Fin 256, (BitVec.ofNat 8 b.val &&& 240#8).toInt = 16 * (high (BitVec.ofNat 8 b.val)).toInt := by
  decide +kernel

theorem low_byte (b : BitVec 8) : ((b <<< 4) &&& 240#8).toInt = 16 * (low b).toInt := by
  have h := low_times ⟨b.toNat, b.isLt⟩
  simpa using h
theorem high_byte (b : BitVec 8) : (b &&& 240#8).toInt = 16 * (high b).toInt := by
  have h := high_times ⟨b.toNat, b.isLt⟩
  simpa using h

/-- Sixteen times a number, times a sixteenth of a scale, is the number times the scale. -/
theorem unscale (n : ℤ) (g : EReal) : (((16 * n : ℤ) : ℝ) : EReal) * (g * Ideal.ofBits .f32 1031798784#32) = ((n : ℝ) : EReal) * g := by
  have hc : Ideal.ofBits .f32 1031798784#32 = ((1 / 16 : ℝ) : EReal) := by
    simp [Ideal.ofBits, Ideal.ieee, -EReal.coe_mul]; norm_num
  rw [hc, mul_comm g, ← mul_assoc, ← EReal.coe_mul]
  congr 2
  push_cast
  ring

/-- The bits of a byte out of an array of words of four rows. -/
theorem byte_bit (y : (⟨2, ![8, 256]⟩ : Shape).Idx → BitVec 32) (h : (⟨2, ![8, 256]⟩ : Shape).Bitcasts 32 ⟨2, ![32, 256]⟩ 8)
    (q : Fin 32) (l : Fin 256) (i : ℕ) (hi : i < 8) :
    (bitcast ⟨2, ![32, 256]⟩ 8 y h (ix2 q l)).getLsbD i = (y (ix2 ⟨q.val / 4, by omega⟩ l)).getLsbD (8 * (q.val % 4) + i) := by
  rw [bitcast_getLsbD y h _ i hi (by decide)]
  have hrow : (⟨2, ![32, 256]⟩ : Shape).row (ix2 q l) = q.val := rfl
  have e : ((⟨2, ![32, 256]⟩ : Shape).row (ix2 q l) * 8 + i) % 32 = 8 * (q.val % 4) + i := by rw [hrow]; omega
  rw [e]
  congr 2
  funext c
  match c with
  | ⟨0, _⟩ => exact Fin.ext ((h.srcIdx_row _ _ _ ⟨0, Nat.zero_lt_two⟩ rfl).trans (by show ((⟨2, ![32, 256]⟩ : Shape).row (ix2 q l) * 8 + i) / 32 = q.val / 4; rw [hrow]; omega))
  | ⟨1, _⟩ => exact Fin.ext (h.srcIdx_other _ _ _ ⟨1, by decide⟩ (by decide))

theorem mask_bit : ∀ (a : Fin 4) (i : Fin 8), (4042322160#32).getLsbD (8 * a.val + i.val) = decide (4 ≤ i.val) := by decide +kernel
theorem mask_byte : ∀ (i : Fin 8), (240#8).getLsbD i.val = decide (4 ≤ i.val) := by decide +kernel

variable (w : (⟨2, ![32, 256]⟩ : Shape).Idx → BitVec 8) (h : (⟨2, ![32, 256]⟩ : Shape).Bitcasts 8 ⟨2, ![8, 256]⟩ 32)
  (h' : (⟨2, ![8, 256]⟩ : Shape).Bitcasts 32 ⟨2, ![32, 256]⟩ 8)

/-- The kernel's high bytes. -/
theorem high_word (q : Fin 32) (l : Fin 256) :
    bitcast ⟨2, ![32, 256]⟩ 8 (andi (bitcast ⟨2, ![8, 256]⟩ 32 w h) (broadcast ⟨2, ![8, 256]⟩ 4042322160#32)) h' (ix2 q l) = w (ix2 q l) &&& 240#8 := by
  apply BitVec.eq_of_getLsbD_eq
  intro i hi
  rw [byte_bit _ h' q l i hi]
  show ((bitcast ⟨2, ![8, 256]⟩ 32 w h (ix2 ⟨q.val / 4, by omega⟩ l)) &&& 4042322160#32).getLsbD _ = _
  rw [BitVec.getLsbD_and, BitVec.getLsbD_and, mask_bit ⟨q.val % 4, by omega⟩ ⟨i, hi⟩, mask_byte ⟨i, hi⟩,
    bitcast_8_32_getLsbD_ix2 w h ⟨q.val / 4, by omega⟩ l _ (by omega) q (by show q.val = 4 * (q.val / 4) + (8 * (q.val % 4) + i) / 8; omega)]
  congr 2
  omega

/-- The kernel's low bytes. -/
theorem low_word (q : Fin 32) (l : Fin 256) :
    bitcast ⟨2, ![32, 256]⟩ 8 (andi (shli (bitcast ⟨2, ![8, 256]⟩ 32 w h) (broadcast ⟨2, ![8, 256]⟩ 4#32)) (broadcast ⟨2, ![8, 256]⟩ 4042322160#32)) h' (ix2 q l)
      = (w (ix2 q l) <<< 4) &&& 240#8 := by
  apply BitVec.eq_of_getLsbD_eq
  intro i hi
  rw [byte_bit _ h' q l i hi]
  show (((bitcast ⟨2, ![8, 256]⟩ 32 w h (ix2 ⟨q.val / 4, by omega⟩ l)) <<< 4) &&& 4042322160#32).getLsbD _ = _
  rw [BitVec.getLsbD_and, BitVec.getLsbD_and, mask_bit ⟨q.val % 4, by omega⟩ ⟨i, hi⟩, mask_byte ⟨i, hi⟩]
  by_cases h4 : 4 ≤ i
  · rw [BitVec.getLsbD_shiftLeft, BitVec.getLsbD_shiftLeft,
      bitcast_8_32_getLsbD_ix2 w h ⟨q.val / 4, by omega⟩ l _ (by omega) q (by show q.val = 4 * (q.val / 4) + (8 * (q.val % 4) + i - 4) / 8; omega)]
    have e : (8 * (q.val % 4) + i - 4) % 8 = i - 4 := by omega
    rw [e]
    have a1 : ¬ (8 * (q.val % 4) + i < 4) := by omega
    have a2 : ¬ i < 4 := by omega
    have a3 : 8 * (q.val % 4) + i < 32 := by omega
    simp [a1, a2, a3, hi]
  · simp [h4]

end Cert.Nibbles

end
-- ==== Proof.Conv.lean ====
/- The convolution both programs compute: over the nine taps and the 960 packed channels, the low and the high half of every
   group of 64 channels. -/
module

public import Idealize.ShloMosaic.PureOps.Ideal
public import Idealize.ShloMosaic.Lib.IdealHost
public import Idealize.ShloMosaic.Lib.Pointwise

@[expose] public section

set_option maxRecDepth 16384

noncomputable section

namespace Cert.Conv

open Idealize.ShloMosaic

/-- The image with a border of one zero pixel: image `b` of two, line `yy` of ten, pixel `xx` of eighteen. -/
def img (A : Fin 256 → Fin 1920 → EReal) (b yy xx : ℕ) (k : Fin 1920) : EReal :=
  if h : b < 2 ∧ 1 ≤ yy ∧ yy < 9 ∧ 1 ≤ xx ∧ xx < 17 then A ⟨b * 128 + (yy - 1) * 16 + (xx - 1), by omega⟩ k else 0

/-- The channel of packed channel `k`'s low nibble, -/
def lo (k : Fin 960) : Fin 1920 := ⟨k.val / 32 * 64 + k.val % 32, by omega⟩
/-- and of its high one. -/
def hi (k : Fin 960) : Fin 1920 := ⟨k.val / 32 * 64 + (32 + k.val % 32), by omega⟩

/-- A sum over the channels is a sum over the low nibbles' channels and one over the high nibbles'. -/
theorem sum_groups (f : Fin 1920 → EReal) : ∑ k, f k = ∑ k : Fin 960, f (lo k) + ∑ k : Fin 960, f (hi k) := by
  rw [Fin.sum_univ_tiles 30 64 rfl f, Fin.sum_univ_tiles 30 32 rfl fun k : Fin 960 => f (lo k),
    Fin.sum_univ_tiles 30 32 rfl fun k : Fin 960 => f (hi k), ← Finset.sum_add_distrib]
  refine Finset.sum_congr rfl fun j _ => ?_
  have hj := j.isLt
  rw [Fin.sum_univ_two_halves 32 32 rfl]
  refine congrArg₂ (· + ·) (Finset.sum_congr rfl fun t _ => congrArg f (Fin.ext ?_)) (Finset.sum_congr rfl fun t _ => congrArg f (Fin.ext ?_))
  · have ht := t.isLt
    simp only [lo]
    omega
  · have ht := t.isLt
    simp only [hi]
    omega

/-- One tap's low sum at row `r` of the 256. -/
def tap (A : Fin 256 → Fin 1920 → EReal) (w : Fin 3 → Fin 3 → Fin 960 → EReal) (ch : Fin 960 → Fin 1920) (r : Fin 256) (dy dx : Fin 3) : EReal :=
  ∑ k : Fin 960, img A (r.val / 128) (r.val % 128 / 16 + dy.val) (r.val % 16 + dx.val) (ch k) * w dy dx k

/-- The convolution at row `r`: the weights of the low and of the high nibbles as columns. -/
def conv (A : Fin 256 → Fin 1920 → EReal) (wl wh : Fin 3 → Fin 3 → Fin 960 → EReal) (r : Fin 256) : EReal :=
  ∑ i : Fin 9, (tap A wl lo r ⟨i.val / 3, by omega⟩ ⟨i.val % 3, by omega⟩ + tap A wh hi r ⟨i.val / 3, by omega⟩ ⟨i.val % 3, by omega⟩)

/-- The convolution with the halves summed apart, tap by tap in order. -/
theorem conv_apart (A : Fin 256 → Fin 1920 → EReal) (wl wh : Fin 3 → Fin 3 → Fin 960 → EReal) (r : Fin 256) :
    conv A wl wh r = (tap A wl lo r 0 0 + tap A wl lo r 0 1 + tap A wl lo r 0 2 + tap A wl lo r 1 0 + tap A wl lo r 1 1 + tap A wl lo r 1 2
        + tap A wl lo r 2 0 + tap A wl lo r 2 1 + tap A wl lo r 2 2)
      + (tap A wh hi r 0 0 + tap A wh hi r 0 1 + tap A wh hi r 0 2 + tap A wh hi r 1 0 + tap A wh hi r 1 1 + tap A wh hi r 1 2
        + tap A wh hi r 2 0 + tap A wh hi r 2 1 + tap A wh hi r 2 2) := by
  unfold conv
  rw [Finset.sum_add_distrib]
  refine congrArg₂ (· + ·) ?_ ?_
  · simp only [Fin.sum_univ_succ, Fin.sum_univ_zero]
    simp only [add_zero, ← add_assoc]
    rfl
  · simp only [Fin.sum_univ_succ, Fin.sum_univ_zero]
    simp only [add_zero, ← add_assoc]
    rfl

end Cert.Conv

end
-- ==== Proof.KConv.lean ====
/- The kernel's result block at an index: a sum over the nine taps of a sum over the 1920 channels, scaled and biased. -/
module

public import proofs.«01_k».proof.Proof.KRows
public import proofs.«01_k».proof.Proof.Nibbles
public import proofs.«01_k».proof.Proof.Conv

@[expose] public section

set_option maxRecDepth 16384

noncomputable section

namespace Cert.KernelIdeal.Rolled

open Idealize.ShloMosaic Cert.KernelIdeal Cert.KernelIdeal.Gen

/-! ## Weights -/

theorem loBytes_at (w : Vec Ideal S1x1x32x256 .i8) (q : Fin 32) (l : Fin 256) :
    loBytes (F := Ideal) w (ix2 q l) = ((w (ix4 (0 : Fin 1) (0 : Fin 1) q l) : BitVec 8) <<< 4) &&& 240#8 := by
  have e : (shapeCast S32x256 w shapeCasts_S1x1x32x256_S32x256 : IVec S32x256 8) (ix2 q l) = w (ix4 (0 : Fin 1) (0 : Fin 1) q l) := by
    pointwise
  rw [← e]
  exact Nibbles.low_word _ bitcasts_S32x256_w8_S8x256_w32 bitcasts_S8x256_w32_S32x256_w8 q l
theorem hiBytes_at (w : Vec Ideal S1x1x32x256 .i8) (q : Fin 32) (l : Fin 256) :
    hiBytes (F := Ideal) w (ix2 q l) = (w (ix4 (0 : Fin 1) (0 : Fin 1) q l) : BitVec 8) &&& 240#8 := by
  have e : (shapeCast S32x256 w shapeCasts_S1x1x32x256_S32x256 : IVec S32x256 8) (ix2 q l) = w (ix4 (0 : Fin 1) (0 : Fin 1) q l) := by
    pointwise
  rw [← e]
  exact Nibbles.high_word _ bitcasts_S32x256_w8_S8x256_w32 bitcasts_S8x256_w32_S32x256_w8 q l

/-- A signed word as a number. -/
def num (n : BitVec 32) : EReal := ((n.toInt : ℝ) : EReal)

theorem dec_at (b : IVec S32x256 8) (s : Vec Ideal S1x256 .f32) (q : Fin 32) (l : Fin 256) (n : BitVec 32)
    (h : (b (ix2 q l)).toInt = 16 * n.toInt) : dec (F := Ideal) b s (ix2 q l) = num n * s (ix2 (0 : Fin 1) l) := by
  pointwise [dec, gsRow]
  refine Eq.trans ?_ (Nibbles.unscale n.toInt _)
  rw [← h]
  rfl

variable (W : Vec Ideal S3x3x960x256 .i8) (S : Vec Ideal S30x256 .f32)

theorem ldW_at {dy dx g : ℕ} (hy : dy < 3) (hx : dx < 3) (hg : g < 30) (q : Fin 32) (l : Fin 256) (k : Fin 960) (h : 32 * g + q.val = k.val) :
    View.ld (Val := Elt Ideal) W (rectW hy hx hg) (ix4 (0 : Fin 1) (0 : Fin 1) q l) = W (ix4 ⟨dy, hy⟩ ⟨dx, hx⟩ k l) := by
  show W _ = W _
  congr 1
  funext d
  fin_cases d
  · exact Fin.ext (by show dy + 1 * 0 = dy; omega)
  · exact Fin.ext (by show dx + 1 * 0 = dx; omega)
  · exact Fin.ext (by show 32 * g + 1 * q.val = k.val; omega)
  · exact Fin.ext (by show 0 + 1 * l.val = l.val; omega)

theorem ldS_at {g : ℕ} (hg : g < 30) (l : Fin 256) :
    View.ld (Val := Elt Ideal) S (rectS hg) (ix2 (0 : Fin 1) l) = S (ix2 ⟨g, hg⟩ l) := by
  show S _ = S _
  congr 1
  funext d
  fin_cases d
  · exact Fin.ext (by show g + 1 * 0 = g; omega)
  · exact Fin.ext (by show 0 + 1 * l.val = l.val; omega)

theorem lowHalf_at {dy dx g : ℕ} (hy : dy < 3) (hx : dx < 3) (hg : g < 30) (q : Fin 32) (l : Fin 256) (k : Fin 960) (h : 32 * g + q.val = k.val) :
    lowHalf (F := Ideal) W S hy hx hg (ix2 q l) = num (Nibbles.low (W (ix4 ⟨dy, hy⟩ ⟨dx, hx⟩ k l))) * S (ix2 ⟨g, hg⟩ l) := by
  have e : lowHalf (F := Ideal) W S hy hx hg (ix2 q l) = dec (F := Ideal) (loBytes (F := Ideal) (View.ld (Val := Elt Ideal) W (rectW hy hx hg))) (View.ld (Val := Elt Ideal) S (rectS hg)) (ix2 q l) := by
    pointwise [lowHalf]
  rw [e, dec_at _ _ q l _ (by rw [loBytes_at]; exact Nibbles.low_byte _), ldS_at, ldW_at W hy hx hg q l k h]
theorem highHalf_at {dy dx g : ℕ} (hy : dy < 3) (hx : dx < 3) (hg : g < 30) (q : Fin 32) (l : Fin 256) (k : Fin 960) (h : 32 * g + q.val = k.val) :
    highHalf (F := Ideal) W S hy hx hg (ix2 q l) = num (Nibbles.high (W (ix4 ⟨dy, hy⟩ ⟨dx, hx⟩ k l))) * S (ix2 ⟨g, hg⟩ l) := by
  have e : highHalf (F := Ideal) W S hy hx hg (ix2 q l) = dec (F := Ideal) (hiBytes (F := Ideal) (View.ld (Val := Elt Ideal) W (rectW hy hx hg))) (View.ld (Val := Elt Ideal) S (rectS hg)) (ix2 q l) := by
    pointwise [highHalf]
  rw [e, dec_at _ _ q l _ (by rw [hiBytes_at]; exact Nibbles.high_byte _), ldS_at, ldW_at W hy hx hg q l k h]

/-- A weight: the nibble of the packed channel `k / 64 * 32 + k % 32`, low for the first 32 channels of a group of 64 and high
    for the others, times the group's scale. -/
theorem weights_at {dy dx : ℕ} (hy : dy < 3) (hx : dx < 3) (k : Fin 1920) (l : Fin 256) :
    weights (F := Ideal) W S hy hx (ix2 k l)
      = num (if k.val % 64 < 32 then Nibbles.low (W (ix4 ⟨dy, hy⟩ ⟨dx, hx⟩ ⟨k.val / 64 * 32 + k.val % 32, by omega⟩ l))
          else Nibbles.high (W (ix4 ⟨dy, hy⟩ ⟨dx, hx⟩ ⟨k.val / 64 * 32 + k.val % 32, by omega⟩ l))) * S (ix2 ⟨k.val / 64, by omega⟩ l) := by
  by_cases h : k.val % 64 < 32
  · rw [if_pos h]
    refine Eq.trans (if_pos h) ?_
    exact lowHalf_at W S hy hx _ _ _ _ (by show 32 * (k.val / 64) + k.val % 32 = k.val / 64 * 32 + k.val % 32; omega)
  · rw [if_neg h]
    refine Eq.trans (if_neg h) ?_
    exact highHalf_at W S hy hx _ _ _ _ (by show 32 * (k.val / 64) + k.val % 32 = k.val / 64 * 32 + k.val % 32; omega)

/-! ## A tap -/

/-- A tap of kernel row `dy` adds the product's row sixteen rows up, the same, or sixteen rows down, where that row is of the same image. -/
theorem addTap_at (dy : ℕ) (hy : dy < 3) (a : FVec Ideal S256x256 .f32) (x : Vec Ideal S1x256x1920 .bf16) (w : Vec Ideal S1920x256 .bf16) (r l : Fin 256) :
    addTap (F := Ideal) dy a x w (ix2 r l) = a (ix2 r l)
      + if h : 1 ≤ r.val % 128 / 16 + dy ∧ r.val % 128 / 16 + dy < 9 then
          ∑ k : Fin 1920, x (ix3 (0 : Fin 1) ⟨r.val + 16 * dy - 16, by omega⟩ k) * w (ix2 k l) else 0 := by
  have hr := r.isLt
  have e : dy = 0 ∨ dy = 1 ∨ dy = 2 := by omega
  rcases e with rfl | rfl | rfl
  · pointwise [addTap, shifted, tapDot, Rolled.pad]
    congr 1
    split_ifs <;> first
      | rfl
      | exact congrArg (fun p : Fin 256 => ∑ k : Fin 1920, x (ix3 (0 : Fin 1) p k) * w (ix2 k l)) (Fin.ext (by first | omega | (simp only; omega)))
      | (exfalso; omega)
      | (rw [dif_pos (by omega)]; done)
      | (rw [dif_pos (by omega)]
         exact congrArg (fun p : Fin 256 => ∑ k : Fin 1920, x (ix3 (0 : Fin 1) p k) * w (ix2 k l)) (Fin.ext (by first | omega | (simp only; omega))))
  · pointwise [addTap, shifted, tapDot, Rolled.pad]
    congr 1
    split_ifs <;> first
      | rfl
      | exact congrArg (fun p : Fin 256 => ∑ k : Fin 1920, x (ix3 (0 : Fin 1) p k) * w (ix2 k l)) (Fin.ext (by first | omega | (simp only; omega)))
      | (exfalso; omega)
      | (rw [dif_pos (by omega)]; done)
      | (rw [dif_pos (by omega)]
         exact congrArg (fun p : Fin 256 => ∑ k : Fin 1920, x (ix3 (0 : Fin 1) p k) * w (ix2 k l)) (Fin.ext (by first | omega | (simp only; omega))))
  · pointwise [addTap, shifted, tapDot, Rolled.pad]
    congr 1
    split_ifs <;> first
      | rfl
      | exact congrArg (fun p : Fin 256 => ∑ k : Fin 1920, x (ix3 (0 : Fin 1) p k) * w (ix2 k l)) (Fin.ext (by first | omega | (simp only; omega)))
      | (exfalso; omega)
      | (rw [dif_pos (by omega)]; done)
      | (rw [dif_pos (by omega)]
         exact congrArg (fun p : Fin 256 => ∑ k : Fin 1920, x (ix3 (0 : Fin 1) p k) * w (ix2 k l)) (Fin.ext (by first | omega | (simp only; omega))))

theorem out_at (a : FVec Ideal S256x256 .f32) (cs b : Vec Ideal S1x256 .f32) (r l : Fin 256) :
    outBlock (F := Ideal) a cs b (ix2 r l) = a (ix2 r l) * cs (ix2 (0 : Fin 1) l) + b (ix2 (0 : Fin 1) l) := by
  pointwise [outBlock]

theorem ldX_at (P : Vec Ideal S3x256x1920 .bf16) {dx : ℕ} (hx : dx < 3) (r : Fin 256) (k : Fin 1920) :
    View.ld (Val := Elt Ideal) P (rectX hx) (ix3 (0 : Fin 1) r k) = P (ix3 ⟨dx, hx⟩ r k) := by
  show P _ = P _
  congr 1
  funext d
  fin_cases d
  · exact Fin.ext (by show dx + 1 * 0 = dx; omega)
  · exact Fin.ext (by show 0 + 1 * r.val = r.val; omega)
  · exact Fin.ext (by show 0 + 1 * k.val = k.val; omega)

/-! ## The sum over the taps -/

/-- The column of weights of the low nibbles of the whole packed array, -/
def colLow (l : Fin 256) (dy dx : Fin 3) (k : Fin 960) : EReal := num (Nibbles.low (W (ix4 dy dx k l))) * S (ix2 ⟨k.val / 32, by omega⟩ l)
/-- and of the high nibbles. -/
def colHigh (l : Fin 256) (dy dx : Fin 3) (k : Fin 960) : EReal := num (Nibbles.high (W (ix4 dy dx k l))) * S (ix2 ⟨k.val / 32, by omega⟩ l)

theorem weights_lo (dy dx : Fin 3) (k : Fin 960) (l : Fin 256) :
    weights (F := Ideal) W S dy.isLt dx.isLt (ix2 (Conv.lo k) l) = colLow W S l dy dx k := by
  have hk := k.isLt
  rw [weights_at, if_pos (by show (k.val / 32 * 64 + k.val % 32) % 64 < 32; omega)]
  unfold colLow
  exact congrArg₂ (fun (a : Fin 960) (g : Fin 30) => num (Nibbles.low (W (ix4 dy dx a l))) * S (ix2 g l))
    (Fin.ext (by show (k.val / 32 * 64 + k.val % 32) / 64 * 32 + (k.val / 32 * 64 + k.val % 32) % 32 = k.val; omega)) (Fin.ext (by show (k.val / 32 * 64 + k.val % 32) / 64 = k.val / 32; omega))
theorem weights_hi (dy dx : Fin 3) (k : Fin 960) (l : Fin 256) :
    weights (F := Ideal) W S dy.isLt dx.isLt (ix2 (Conv.hi k) l) = colHigh W S l dy dx k := by
  have hk := k.isLt
  rw [weights_at, if_neg (by show ¬ (k.val / 32 * 64 + (32 + k.val % 32)) % 64 < 32; omega)]
  unfold colHigh
  exact congrArg₂ (fun (a : Fin 960) (g : Fin 30) => num (Nibbles.high (W (ix4 dy dx a l))) * S (ix2 g l))
    (Fin.ext (by show (k.val / 32 * 64 + (32 + k.val % 32)) / 64 * 32 + (k.val / 32 * 64 + (32 + k.val % 32)) % 32 = k.val; omega)) (Fin.ext (by show (k.val / 32 * 64 + (32 + k.val % 32)) / 64 = k.val / 32; omega))

variable (X : Vec Ideal S256x1920 .bf16)

/-- What one tap adds at row `r` and column `l`. -/
theorem step_at (dy dx : Fin 3) (a : FVec Ideal S256x256 .f32) (r l : Fin 256) :
    addTap (F := Ideal) dy.val a (View.ld (Val := Elt Ideal) (pixels (F := Ideal) X) (rectX dx.isLt)) (weights (F := Ideal) W S dy.isLt dx.isLt) (ix2 r l)
      = a (ix2 r l) + (Conv.tap (deq X) (colLow W S l) Conv.lo r dy dx + Conv.tap (deq X) (colHigh W S l) Conv.hi r dy dx) := by
  have hr := r.isLt
  have hdy := dy.isLt
  have hdx := dx.isLt
  rw [addTap_at dy.val dy.isLt]
  refine congrArg (a (ix2 r l) + ·) ?_
  have key : (∑ k : Fin 1920, Conv.img (deq X) (r.val / 128) (r.val % 128 / 16 + dy.val) (r.val % 16 + dx.val) k * weights (F := Ideal) W S dy.isLt dx.isLt (ix2 k l))
      = Conv.tap (deq X) (colLow W S l) Conv.lo r dy dx + Conv.tap (deq X) (colHigh W S l) Conv.hi r dy dx := by
    rw [Conv.sum_groups]
    simp only [weights_lo, weights_hi]
    rfl
  refine Eq.trans ?_ key
  by_cases h : 1 ≤ r.val % 128 / 16 + dy.val ∧ r.val % 128 / 16 + dy.val < 9
  · rw [dif_pos h]
    refine Finset.sum_congr rfl fun k _ => ?_
    refine congrArg (· * _) ?_
    rw [ldX_at, pixels_at]
    unfold Conv.img
    by_cases h' : 1 ≤ r.val % 16 + dx.val ∧ r.val % 16 + dx.val < 17
    · rw [dif_pos (by simp only; omega), dif_pos (by omega)]
      refine congrArg (fun p => deq X p k) (Fin.ext ?_)
      simp only
      omega
    · rw [dif_neg (by simp only; omega), dif_neg (by omega)]
  · rw [dif_neg h]
    refine (Finset.sum_eq_zero fun k _ => ?_).symm
    unfold Conv.img
    rw [dif_neg (by omega), zero_mul]

/-- The sum over the first `n` taps. -/
theorem sumOver_at (r l : Fin 256) : ∀ (n : ℕ) (h : n ≤ 9), sumOver (F := Ideal) W S (pixels (F := Ideal) X) n h (ix2 r l)
    = ∑ i : Fin n, (Conv.tap (deq X) (colLow W S l) Conv.lo r ⟨i.val / 3, by omega⟩ ⟨i.val % 3, by omega⟩
        + Conv.tap (deq X) (colHigh W S l) Conv.hi r ⟨i.val / 3, by omega⟩ ⟨i.val % 3, by omega⟩) := by
  intro n
  induction n with
  | zero =>
    intro h
    show Ideal.ofBits .f32 0#32 = _
    simp [Ideal.ofBits, Ideal.ieee]
  | succ n ih =>
    intro h
    rw [Fin.sum_univ_castSucc]
    refine (step_at W S X ⟨n / 3, by omega⟩ ⟨n % 3, by omega⟩ _ r l).trans ?_
    rw [ih (by omega)]
    rfl

/-- THE KERNEL'S RESULT BLOCK. -/
theorem block_at (cs b : Vec Ideal S1x256 .f32) (r l : Fin 256) :
    outBlock (F := Ideal) (sumOver (F := Ideal) W S (pixels (F := Ideal) X) 9 le_rfl) cs b (ix2 r l)
      = Conv.conv (deq X) (colLow W S l) (colHigh W S l) r * cs (ix2 (0 : Fin 1) l) + b (ix2 (0 : Fin 1) l) := by
  rw [out_at, sumOver_at]
  rfl

end Cert.KernelIdeal.Rolled

end
-- ==== Proof.RRows.lean ====
/- The reference's codes and scales at an index. -/
module

public import proofs.«01_k».proof.Proof.Gen.ReferenceIdeal.Value
public import proofs.«01_k».proof.Proof.Ladder
public import Idealize.ShloMosaic.Lib.Pointwise

@[expose] public section

set_option maxRecDepth 16384

noncomputable section

namespace Cert.ReferenceIdeal.Rows

open Idealize.ShloMosaic Cert.ReferenceIdeal Cert.ReferenceIdeal.Gen

variable (x : Vec Ideal S2x128x1920 .bf16)

/-- The scale of a row. -/
theorem scale_at (b : Fin 2) (s : Fin 128) (z : Fin 1) :
    k0_pay3 (F := Ideal) x (ix3 b s z) = Ladder.scaleR (Ladder.ratioOf fun k => x (ix3 b s k)) := by
  pointwise [k0_pay3, k0_pay2]
  rfl

/-- A code. -/
theorem code_at (b : Fin 2) (s : Fin 128) (l : Fin 1920) :
    k0_pay4 (F := Ideal) x (ix3 b s l) = min (Ideal.ofBits .f32 1138753536#32) (max (Ideal.ofBits .f32 3286237184#32)
      (Ideal.div (x (ix3 b s l)) (Ladder.scaleR (Ladder.ratioOf fun k => x (ix3 b s k))))) := by
  rw [← scale_at x b s 0]
  pointwise [k0_pay4, k0_pay2]

/-- The code results, -/
theorem codes_at (r : Fin 256) (l : Fin 1920) :
    k0_pay5 (F := Ideal) x (ix2 r l) = k0_pay4 (F := Ideal) x (ix3 ⟨r.val / 128, by omega⟩ ⟨r.val % 128, by omega⟩ l) := by
  pointwise [k0_pay5]

/-- and the scale results. -/
theorem scales_at (r : Fin 256) (l : Fin 128) :
    k0_pay6 (F := Ideal) x (ix2 r l) = k0_pay3 (F := Ideal) x (ix3 ⟨r.val / 128, by omega⟩ ⟨r.val % 128, by omega⟩ 0) := by
  pointwise [k0_pay6]

end Cert.ReferenceIdeal.Rows

end
-- ==== Proof.RConv.lean ====
/- The reference's convolution result at an index, over its padded image halves and its weight halves. -/
module

public import proofs.«01_k».proof.Proof.Gen.ReferenceIdeal.Value
public import Idealize.ShloMosaic.Lib.Pointwise
public import proofs.«01_k».proof.Proof.Conv
public import proofs.«01_k».proof.Proof.Nibbles

@[expose] public section

set_option maxRecDepth 16384

noncomputable section

namespace Cert.ReferenceIdeal.Rows

open Idealize.ShloMosaic Cert.ReferenceIdeal Cert.ReferenceIdeal.Gen

/-- One tap: the window of the padded image at `(dy, dx)` times that tap's weights. -/
def tapR (P : FVec Ideal S2x10x18x960 .bf16) (w : FVec Ideal S3x3x960x1280 .bf16) (r : Fin 256) (n : Fin 1280) (dy dx : Fin 3) : EReal :=
  ∑ k : Fin 960, P (ix4 (⟨r.val / 128, by omega⟩ : Fin 2) (⟨dy.val + r.val / 16 % 8, by omega⟩ : Fin 10) (⟨dx.val + r.val % 16, by omega⟩ : Fin 18) k) * w (ix4 dy dx k n)

variable (P : FVec Ideal S2x10x18x960 .bf16) (w w' : FVec Ideal S3x3x960x1280 .bf16) (r : Fin 256) (n : Fin 1280)

/-- The low half's sum: eight taps after the first. -/
theorem pay17_at (z : FVec Ideal S256x1280 .f32) (a : FVec Ideal S256x960 .bf16) (b : FVec Ideal S960x1280 .bf16) :
    k0_pay17 (F := Ideal) w P z a b (ix2 r n) = z (ix2 r n) + (∑ k : Fin 960, a (ix2 r k) * b (ix2 k n)) + tapR P w r n 0 1 + tapR P w r n 0 2
      + tapR P w r n 1 0 + tapR P w r n 1 1 + tapR P w r n 1 2 + tapR P w r n 2 0 + tapR P w r n 2 1 + tapR P w r n 2 2 := by
  pointwise [k0_pay17, tapR]

/-- Its first tap's operands. -/
theorem pay15_at (s : FVec Ideal S2x128x1 .f32) (q : FVec Ideal S2x128x1920 .fp8e4m3) (r : Fin 256) (k : Fin 960) :
    k0_pay15 (F := Ideal) s q (ix2 r k) = k0_pay13 (F := Ideal) s q (ix4 (⟨r.val / 128, by omega⟩ : Fin 2) (⟨r.val / 16 % 8, by omega⟩ : Fin 10) (⟨r.val % 16, by omega⟩ : Fin 18) k) := by
  pointwise [k0_pay15]
theorem pay16_at (v : IVec S3x3x960x1280 32) (z : BitVec 32) (g : Vec Ideal S30x1280 .f32) (k : Fin 960) (n : Fin 1280) :
    k0_pay16 (F := Ideal) v z g (ix2 k n) = k0_pay9 (F := Ideal) v z g (ix4 (0 : Fin 3) (0 : Fin 3) k n) := by
  pointwise [k0_pay16]

/-- The high half's first seven taps, -/
theorem pay19_at (v72 : FVec Ideal S2x8x16x960 .bf16) (z : BitVec 32) :
    k0_pay19 (F := Ideal) w v72 z (ix2 r n) = tapR (k0_pay18 (F := Ideal) v72 z) w r n 0 0 + tapR (k0_pay18 (F := Ideal) v72 z) w r n 0 1
      + tapR (k0_pay18 (F := Ideal) v72 z) w r n 0 2 + tapR (k0_pay18 (F := Ideal) v72 z) w r n 1 0 + tapR (k0_pay18 (F := Ideal) v72 z) w r n 1 1
      + tapR (k0_pay18 (F := Ideal) v72 z) w r n 1 2 + tapR (k0_pay18 (F := Ideal) v72 z) w r n 2 0 := by
  pointwise [k0_pay19, tapR]

/-- its last two, the two halves' sum, the scale and the bias. -/
theorem pay1_at (lows highs : FVec Ideal S256x1280 .f32) (cs b : Vec Ideal S1280 .f32) :
    k0_pay1 (F := Ideal) w lows P highs cs b (ix2 r n)
      = (lows (ix2 r n) + (highs (ix2 r n) + tapR P w r n 2 1 + tapR P w r n 2 2)) * cs (ix1 n) + b (ix1 n) := by
  pointwise [k0_pay1, tapR]

/-! ## Operands -/

/-- A low weight, -/
theorem pay9_at (x : Vec Ideal S3x3x960x1280 .i8) (g : Vec Ideal S30x1280 .f32) (dy dx : Fin 3) (k : Fin 960) (n : Fin 1280) :
    k0_pay9 (F := Ideal) (k0_pay7 (F := Ideal) x) 15#32 g (ix4 dy dx k n) = (((Nibbles.low (x (ix4 dy dx k n))).toInt : ℝ) : EReal) * g (ix2 ⟨k.val / 32, by omega⟩ n) := by
  pointwise [k0_pay9, k0_pay8, k0_pay7]
  rfl
/-- and a high one. -/
theorem pay10_at (x : Vec Ideal S3x3x960x1280 .i8) (g : Vec Ideal S30x1280 .f32) (dy dx : Fin 3) (k : Fin 960) (n : Fin 1280) :
    k0_pay10 (F := Ideal) (k0_pay7 (F := Ideal) x) g (ix4 dy dx k n) = (((Nibbles.high (x (ix4 dy dx k n))).toInt : ℝ) : EReal) * g (ix2 ⟨k.val / 32, by omega⟩ n) := by
  pointwise [k0_pay10, k0_pay8, k0_pay7]
  rfl

/-- The dequantised rows. -/
def deqR (s : FVec Ideal S2x128x1 .f32) (q : FVec Ideal S2x128x1920 .fp8e4m3) (R : Fin 256) (l : Fin 1920) : EReal :=
  q (ix3 (⟨R.val / 128, by omega⟩ : Fin 2) (⟨R.val % 128, by omega⟩ : Fin 128) l) * s (ix3 (⟨R.val / 128, by omega⟩ : Fin 2) (⟨R.val % 128, by omega⟩ : Fin 128) (0 : Fin 1))

variable (s : FVec Ideal S2x128x1 .f32) (q : FVec Ideal S2x128x1920 .fp8e4m3)

theorem zero_word : (((0#32).toInt : ℝ) : EReal) = 0 := by simp

/-- The high half of the image. -/
theorem pay12_at (b : Fin 2) (y : Fin 8) (x : Fin 16) (k : Fin 960) (R : Fin 256) (h : R.val = b.val * 128 + y.val * 16 + x.val) :
    k0_pay12 (F := Ideal) s q (ix4 b y x k) = deqR s q R (Conv.hi k) := by
  unfold deqR Conv.hi
  pointwise [k0_pay12, k0_pay11]
  exact congrArg₂ (fun (b : Fin 2) (t : Fin 128) => q (ix3 b t (⟨k.val / 32 * 64 + (32 + k.val % 32), by omega⟩ : Fin 1920)) * s (ix3 b t (0 : Fin 1)))
    (Fin.ext (by show b.val = R.val / 128; omega)) (Fin.ext (by show y.val * 16 + x.val = R.val % 128; omega))

/-- The padded low half of the image. -/
theorem pay13_at (b : Fin 2) (y : Fin 10) (x : Fin 18) (k : Fin 960) :
    k0_pay13 (F := Ideal) s q (ix4 b y x k) = Conv.img (deqR s q) b.val y.val x.val (Conv.lo k) := by
  unfold Conv.img deqR Conv.lo
  pointwise [k0_pay13, k0_pay11]
  by_cases h1 : x.val < 17
  · by_cases h2 : x.val < 1
    · rw [dif_pos h1, dif_pos h2, dif_neg (by omega), zero_word]
    · by_cases h3 : y.val < 9
      · by_cases h4 : y.val < 1
        · rw [dif_pos h1, dif_neg h2, dif_pos h3, dif_pos h4, dif_neg (by omega), zero_word]
        · rw [dif_pos h1, dif_neg h2, dif_pos h3, dif_neg h4, dif_pos (by omega)]
          exact congrArg₂ (fun (b : Fin 2) (t : Fin 128) => q (ix3 b t (⟨k.val / 32 * 64 + k.val % 32, by omega⟩ : Fin 1920)) * s (ix3 b t (0 : Fin 1)))
            (Fin.ext (by show b.val = (b.val * 128 + (y.val - 1) * 16 + (x.val - 1)) / 128; omega))
            (Fin.ext (by show (y.val - 1) * 16 + (x.val - 1) = (b.val * 128 + (y.val - 1) * 16 + (x.val - 1)) % 128; omega))
      · rw [dif_pos h1, dif_neg h2, dif_neg h3, dif_neg (by omega), zero_word]
  · rw [dif_neg h1, dif_neg (by omega), zero_word]

/-- The padded high half. -/
theorem pay18_at (v72 : FVec Ideal S2x8x16x960 .bf16) (b : Fin 2) (y : Fin 10) (x : Fin 18) (k : Fin 960) :
    k0_pay18 (F := Ideal) v72 0#32 (ix4 b y x k)
      = if h : 1 ≤ y.val ∧ y.val < 9 ∧ 1 ≤ x.val ∧ x.val < 17 then v72 (ix4 b ⟨y.val - 1, by omega⟩ ⟨x.val - 1, by omega⟩ k) else 0 := by
  pointwise [k0_pay18]
  by_cases h1 : x.val < 17
  · by_cases h2 : x.val < 1
    · rw [dif_pos h1, dif_pos h2, dif_neg (by omega), zero_word]
    · by_cases h3 : y.val < 9
      · by_cases h4 : y.val < 1
        · rw [dif_pos h1, dif_neg h2, dif_pos h3, dif_pos h4, dif_neg (by omega), zero_word]
        · rw [dif_pos h1, dif_neg h2, dif_pos h3, dif_neg h4, dif_pos (by omega)]
      · rw [dif_pos h1, dif_neg h2, dif_neg h3, dif_neg (by omega), zero_word]
  · rw [dif_neg h1, dif_neg (by omega), zero_word]

/-- The padded high half of the image. -/
theorem pay18_img (b : Fin 2) (y : Fin 10) (x : Fin 18) (k : Fin 960) :
    k0_pay18 (F := Ideal) (k0_pay12 (F := Ideal) s q) 0#32 (ix4 b y x k) = Conv.img (deqR s q) b.val y.val x.val (Conv.hi k) := by
  rw [pay18_at]
  unfold Conv.img
  by_cases h : 1 ≤ y.val ∧ y.val < 9 ∧ 1 ≤ x.val ∧ x.val < 17
  · rw [dif_pos h, dif_pos (by omega)]
    exact pay12_at s q _ _ _ _ _ rfl
  · rw [dif_neg h, dif_neg (by omega)]

/-- A tap over a padded image and weights given otherwise. -/
theorem tapR_eq (A : Fin 256 → Fin 1920 → EReal) (ch : Fin 960 → Fin 1920) (v : Fin 3 → Fin 3 → Fin 960 → EReal) (dy dx : Fin 3)
    (hP : ∀ (b : Fin 2) (y : Fin 10) (x : Fin 18) (k : Fin 960), P (ix4 b y x k) = Conv.img A b.val y.val x.val (ch k))
    (hw : ∀ k : Fin 960, w (ix4 dy dx k n) = v dy dx k) : tapR P w r n dy dx = Conv.tap A v ch r dy dx := by
  have hr := r.isLt
  unfold tapR Conv.tap
  refine Finset.sum_congr rfl fun k _ => ?_
  rw [hP, hw]
  refine congrArg₂ (fun a b => Conv.img A (r.val / 128) a b (ch k) * v dy dx k) ?_ ?_
  · show dy.val + r.val / 16 % 8 = r.val % 128 / 16 + dy.val
    omega
  · show dx.val + r.val % 16 = r.val % 16 + dx.val
    omega

/-- The low weights' column, -/
def colLowR (x : Vec Ideal S3x3x960x1280 .i8) (g : Vec Ideal S30x1280 .f32) (n : Fin 1280) (dy dx : Fin 3) (k : Fin 960) : EReal :=
  (((Nibbles.low (x (ix4 dy dx k n))).toInt : ℝ) : EReal) * g (ix2 ⟨k.val / 32, by omega⟩ n)
/-- and the high weights'. -/
def colHighR (x : Vec Ideal S3x3x960x1280 .i8) (g : Vec Ideal S30x1280 .f32) (n : Fin 1280) (dy dx : Fin 3) (k : Fin 960) : EReal :=
  (((Nibbles.high (x (ix4 dy dx k n))).toInt : ℝ) : EReal) * g (ix2 ⟨k.val / 32, by omega⟩ n)

/-- THE REFERENCE'S CONVOLUTION RESULT. -/
theorem result_at (x : Vec Ideal S3x3x960x1280 .i8) (g : Vec Ideal S30x1280 .f32) (cs b : Vec Ideal S1280 .f32) :
    k0_pay1 (F := Ideal) (k0_pay10 (F := Ideal) (k0_pay7 (F := Ideal) x) g)
        (k0_pay17 (F := Ideal) (k0_pay9 (F := Ideal) (k0_pay7 (F := Ideal) x) 15#32 g) (k0_pay13 (F := Ideal) s q) (k0_pay14 (F := Ideal))
          (k0_pay15 (F := Ideal) s q) (k0_pay16 (F := Ideal) (k0_pay7 (F := Ideal) x) 15#32 g))
        (k0_pay18 (F := Ideal) (k0_pay12 (F := Ideal) s q) 0#32)
        (k0_pay19 (F := Ideal) (k0_pay10 (F := Ideal) (k0_pay7 (F := Ideal) x) g) (k0_pay12 (F := Ideal) s q) 0#32) cs b (ix2 r n)
      = Conv.conv (deqR s q) (colLowR x g n) (colHighR x g n) r * cs (ix1 n) + b (ix1 n) := by
  have hlo : ∀ dy dx : Fin 3, tapR (k0_pay13 (F := Ideal) s q) (k0_pay9 (F := Ideal) (k0_pay7 (F := Ideal) x) 15#32 g) r n dy dx
      = Conv.tap (deqR s q) (colLowR x g n) Conv.lo r dy dx :=
    fun dy dx => tapR_eq _ _ _ _ _ _ _ dy dx (pay13_at s q) fun k => pay9_at x g dy dx k n
  have hhi : ∀ dy dx : Fin 3, tapR (k0_pay18 (F := Ideal) (k0_pay12 (F := Ideal) s q) 0#32) (k0_pay10 (F := Ideal) (k0_pay7 (F := Ideal) x) g) r n dy dx
      = Conv.tap (deqR s q) (colHighR x g n) Conv.hi r dy dx :=
    fun dy dx => tapR_eq _ _ _ _ _ _ _ dy dx (pay18_img s q) fun k => pay10_at x g dy dx k n
  have h0 : (∑ k : Fin 960, k0_pay15 (F := Ideal) s q (ix2 r k) * k0_pay16 (F := Ideal) (k0_pay7 (F := Ideal) x) 15#32 g (ix2 k n))
      = Conv.tap (deqR s q) (colLowR x g n) Conv.lo r 0 0 := by
    rw [← hlo 0 0]
    unfold tapR
    refine Finset.sum_congr rfl fun k _ => ?_
    rw [pay15_at, pay16_at]
    refine congrArg₂ (fun (a : Fin 10) (b : Fin 18) => k0_pay13 (F := Ideal) s q (ix4 (⟨r.val / 128, by omega⟩ : Fin 2) a b k)
      * k0_pay9 (F := Ideal) (k0_pay7 (F := Ideal) x) 15#32 g (ix4 (0 : Fin 3) (0 : Fin 3) k n)) ?_ ?_
    · exact Fin.ext (by show r.val / 16 % 8 = 0 + r.val / 16 % 8; omega)
    · exact Fin.ext (by show r.val % 16 = 0 + r.val % 16; omega)
  have hz : k0_pay14 (F := Ideal) (ix2 r n) = 0 := by pointwise [k0_pay14]
  rw [pay1_at, pay17_at, pay19_at, h0, hz, Conv.conv_apart]
  simp only [hlo, hhi, zero_add]

end Cert.ReferenceIdeal.Rows

end
-- ==== Proof.RResult.lean ====
/- The reference's first result at an index, over its arguments. -/
module

public import proofs.«01_k».proof.Proof.RConv

@[expose] public section

set_option maxRecDepth 16384

noncomputable section

namespace Cert.ReferenceIdeal.Rows

open Idealize.ShloMosaic Cert.ReferenceIdeal Cert.ReferenceIdeal.Gen

variable (a0 : Vec Ideal S2x128x1920 .bf16) (a1 : Vec Ideal S3x3x960x1280 .i8) (a2 : Vec Ideal S30x1280 .f32) (a3 : Vec Ideal S1280 .f32) (a4 : Vec Ideal S1280 .f32)

/-- The values that the body binds, over the arguments: the scales, -/
theorem bound20 : k0_pay20 (F := Ideal) a0 a1 a2 a3 a4 = k0_pay3 (F := Ideal) a0 := by
  unfold k0_pay20
  rw [View.ld_unit_zero (S := S2x128x1920) Value.hz0 _ a0]
/-- the codes, -/
theorem bound21 : k0_pay21 (F := Ideal) a0 a1 a2 a3 a4 = k0_pay4 (F := Ideal) a0 := by
  unfold k0_pay21
  rw [View.ld_unit_zero (S := S2x128x1920) Value.hz0 _ a0]
/-- the weight bytes as words, -/
theorem bound22 : k0_pay22 (F := Ideal) a0 a1 a2 a3 a4 = k0_pay7 (F := Ideal) a1 := by
  unfold k0_pay22
  rw [View.ld_unit_zero (S := S3x3x960x1280) Value.hz1 _ a1]
/-- the high half of the weights, -/
theorem bound23 : k0_pay23 (F := Ideal) a0 a1 a2 a3 a4 = k0_pay10 (F := Ideal) (k0_pay7 (F := Ideal) a1) a2 := by
  unfold k0_pay23
  rw [bound22, View.ld_unit_zero (S := S30x1280) Value.hz2 _ a2]
/-- and the high half of the pixels. -/
theorem bound24 : k0_pay24 (F := Ideal) a0 a1 a2 a3 a4 = k0_pay12 (F := Ideal) (k0_pay3 (F := Ideal) a0) (k0_pay4 (F := Ideal) a0) := by
  unfold k0_pay24
  rw [bound20, bound21]

/-- The convolution of the dequantised image with the two halves of the weights, times the channel's scale, plus its bias. -/
theorem first_at (r : Fin 256) (n : Fin 1280) :
    Value.G5 (F := Ideal) a0 a1 a2 a3 a4 (ix2 r n)
      = Conv.conv (deqR (k0_pay3 (F := Ideal) a0) (k0_pay4 (F := Ideal) a0)) (colLowR a1 a2 n) (colHighR a1 a2 n) r * a3 (ix1 n) + a4 (ix1 n) := by
  unfold Value.G5
  rw [bound20, bound21, bound22, bound23, bound24]
  exact result_at r n _ _ a1 a2 a3 a4

end Cert.ReferenceIdeal.Rows

end
-- ==== Proof.Equation.lean ====
/- The kernel's three arrays are the reference's. -/
module

public import proofs.«01_k».proof.Proof.Blocks
public import proofs.«01_k».proof.Proof.KConv
public import proofs.«01_k».proof.Proof.RRows
public import proofs.«01_k».proof.Proof.RResult

@[expose] public section

set_option maxRecDepth 16384

noncomputable section

namespace Cert.Equation

open Idealize.ShloMosaic Idealize.SL.Sem

/-- Every entry of the image is at most the greatest bf16 number in absolute value. -/
def Within (x : Vec Ideal Cert.ReferenceIdeal.S2x128x1920 .bf16) : Prop :=
  ∀ (b : Fin 2) (s : Fin 128) (k : Fin 1920), FloatOps.absf (F := Ideal) (φ := .f32) (x (ix3 b s k)) ≤ Ideal.ofBits .f32 2139029504#32

/-- The kernel's rows `X` are the pixels of the image `x`, one row each. -/
def Flat (X : Vec Ideal Cert.KernelIdeal.S256x1920 .bf16) (x : Vec Ideal Cert.ReferenceIdeal.S2x128x1920 .bf16) : Prop :=
  ∀ (r : Fin 256) (l : Fin 1920), X (ix2 r l) = x (ix3 (⟨r.val / 128, by omega⟩ : Fin 2) (⟨r.val % 128, by omega⟩ : Fin 128) l)

section Rows

variable {X : Vec Ideal Cert.KernelIdeal.S256x1920 .bf16} {x : Vec Ideal Cert.ReferenceIdeal.S2x128x1920 .bf16}

/-- A row's ratio is its pixel's. -/
theorem ratio_eq (hX : Flat X x) (r : Fin 256) :
    (Ladder.ratioOf fun k => X (ix2 r k)) = Ladder.ratioOf fun k => x (ix3 (⟨r.val / 128, by omega⟩ : Fin 2) (⟨r.val % 128, by omega⟩ : Fin 128) k) :=
  congrArg Ladder.ratioOf (funext fun k => hX r k)

/-- THE SCALES ARE EQUAL: the power of two that the kernel counts out is the one that the reference searches for. -/
theorem scale_eq (hx : Within x) (hX : Flat X x) (r : Fin 256) (z : Fin 1) :
    Ladder.scaleOf (Cert.KernelIdeal.Rolled.cnt X r)
      = Cert.ReferenceIdeal.Gen.k0_pay3 (F := Ideal) x (ix3 (⟨r.val / 128, by omega⟩ : Fin 2) (⟨r.val % 128, by omega⟩ : Fin 128) z) := by
  have hb := Ladder.ratio_bounds _ fun k => hx ⟨r.val / 128, by omega⟩ ⟨r.val % 128, by omega⟩ k
  rw [Cert.ReferenceIdeal.Rows.scale_at, Cert.KernelIdeal.Rolled.cnt, ratio_eq hX r]
  exact Ladder.scale_eq hb.1 hb.2

/-- THE CODES ARE EQUAL: the kernel multiplies by the reciprocal, the reference divides. -/
theorem code_eq (hx : Within x) (hX : Flat X x) (r : Fin 256) (l : Fin 1920) :
    Cert.KernelIdeal.Rolled.code X r l
      = Cert.ReferenceIdeal.Gen.k0_pay4 (F := Ideal) x (ix3 (⟨r.val / 128, by omega⟩ : Fin 2) (⟨r.val % 128, by omega⟩ : Fin 128) l) := by
  have hb := Ladder.ratio_bounds _ fun k => hx ⟨r.val / 128, by omega⟩ ⟨r.val % 128, by omega⟩ k
  rw [Cert.ReferenceIdeal.Rows.code_at, Cert.KernelIdeal.Rolled.code, Cert.KernelIdeal.Rolled.cnt, Cert.KernelIdeal.Rolled.clip, ratio_eq hX r, hX r l,
    Ladder.inv_eq hb.1 hb.2]

/-- So are the dequantised images. -/
theorem deq_eq (hx : Within x) (hX : Flat X x) :
    Cert.KernelIdeal.Rolled.deq X
      = Cert.ReferenceIdeal.Rows.deqR (Cert.ReferenceIdeal.Gen.k0_pay3 (F := Ideal) x) (Cert.ReferenceIdeal.Gen.k0_pay4 (F := Ideal) x) := by
  funext r l
  unfold Cert.KernelIdeal.Rolled.deq Cert.ReferenceIdeal.Rows.deqR
  rw [code_eq hx hX r l, scale_eq hx hX r 0]

end Rows

section Columns

variable {W : Vec Ideal Cert.KernelIdeal.S3x3x960x256 .i8} {S : Vec Ideal Cert.KernelIdeal.S30x256 .f32}
  {w : Vec Ideal Cert.ReferenceIdeal.S3x3x960x1280 .i8} {g : Vec Ideal Cert.ReferenceIdeal.S30x1280 .f32} {n : Fin 256} {N : Fin 1280}

/-- A column of a block of low weights is the column of the array that the block was cut from, -/
theorem low_eq (hW : ∀ (dy dx : Fin 3) (k : Fin 960), W (ix4 dy dx k n) = w (ix4 dy dx k N)) (hS : ∀ i : Fin 30, S (ix2 i n) = g (ix2 i N)) :
    Cert.KernelIdeal.Rolled.colLow W S n = Cert.ReferenceIdeal.Rows.colLowR w g N := by
  funext dy dx k
  unfold Cert.KernelIdeal.Rolled.colLow Cert.ReferenceIdeal.Rows.colLowR
  rw [hW, hS]
  rfl

/-- and of high weights too. -/
theorem high_eq (hW : ∀ (dy dx : Fin 3) (k : Fin 960), W (ix4 dy dx k n) = w (ix4 dy dx k N)) (hS : ∀ i : Fin 30, S (ix2 i n) = g (ix2 i N)) :
    Cert.KernelIdeal.Rolled.colHigh W S n = Cert.ReferenceIdeal.Rows.colHighR w g N := by
  funext dy dx k
  unfold Cert.KernelIdeal.Rolled.colHigh Cert.ReferenceIdeal.Rows.colHighR
  rw [hW, hS]
  rfl

end Columns

section Arrays

variable (m : (ℓ : Loc Cert.KernelIdeal.nD Cert.KernelIdeal.τ Cert.KernelIdeal.sig) → Buf (Elt Ideal) ℓ) (c : Dev Cert.KernelIdeal.nD)

/-- The kernel's rows are the image's pixels. -/
theorem rows_flat (t : Fin Cert.KernelIdeal.cfg0.N) :
    Flat (Cert.KernelIdeal.Gen.iblk m c 0 t) (m ((c.tc : Thread Cert.KernelIdeal.nD Cert.KernelIdeal.τ).loc Cert.KernelIdeal.main_arg0)) :=
  fun r l => Cert.KernelIdeal.Blocks.in0 m c t r l

variable (h : Within (m ((c.tc : Thread Cert.KernelIdeal.nD Cert.KernelIdeal.τ).loc Cert.KernelIdeal.main_arg0)))
include h

/-- THE ARRAY OF CODES after the kernel's run is the reference's. -/
theorem codes_eq :
    (Cert.KernelIdeal.Region.dats m 0 c).arrAt 6 (Cert.KernelIdeal.cfgs 0).N
      = Cert.ReferenceIdeal.Gen.k0_pay5 (F := Ideal) (m ((c.tc : Thread Cert.KernelIdeal.nD Cert.KernelIdeal.τ).loc Cert.KernelIdeal.main_arg0)) :=
  Cert.KernelIdeal.Blocks.final6 m c _ fun r l =>
    (Cert.KernelIdeal.Rolled.codes_at _ r l).trans ((code_eq h (rows_flat m c _) r l).trans (Cert.ReferenceIdeal.Rows.codes_at _ r l).symm)

/-- THE ARRAY OF SCALES after the kernel's run is the reference's. -/
theorem scales_eq :
    (Cert.KernelIdeal.Region.dats m 0 c).arrAt 7 (Cert.KernelIdeal.cfgs 0).N
      = Cert.ReferenceIdeal.Gen.k0_pay6 (F := Ideal) (m ((c.tc : Thread Cert.KernelIdeal.nD Cert.KernelIdeal.τ).loc Cert.KernelIdeal.main_arg0)) :=
  Cert.KernelIdeal.Blocks.final7 m c _ fun r l =>
    (Cert.KernelIdeal.Rolled.scales_at _ r l).trans ((scale_eq h (rows_flat m c _) r 0).trans (Cert.ReferenceIdeal.Rows.scales_at _ r l).symm)

/-- THE CONVOLUTION'S ARRAY after the kernel's run is the reference's. -/
theorem first_eq :
    (Cert.KernelIdeal.Region.dats m 0 c).arrAt 5 (Cert.KernelIdeal.cfgs 0).N
      = Cert.ReferenceIdeal.Value.G5 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  refine Cert.KernelIdeal.Blocks.final5 m c _ fun t r n N hN => ?_
  refine (Cert.KernelIdeal.Rolled.block_at _ _ _ _ _ r n).trans ?_
  refine Eq.trans ?_ (Cert.ReferenceIdeal.Rows.first_at _ _ _ _ _ r N).symm
  rw [deq_eq h (rows_flat m c _), low_eq (fun dy dx k => Cert.KernelIdeal.Blocks.in1 m c t dy dx k n N hN) (fun i => Cert.KernelIdeal.Blocks.in2 m c t i n N hN),
    high_eq (fun dy dx k => Cert.KernelIdeal.Blocks.in1 m c t dy dx k n N hN) (fun i => Cert.KernelIdeal.Blocks.in2 m c t i n N hN),
    Cert.KernelIdeal.Blocks.in3 m c t n N hN, Cert.KernelIdeal.Blocks.in4 m c t n N hN]

end Arrays

end Cert.Equation

end
-- ==== Proof.Finite.lean ====
/- The precondition at an index: every entry of the image is within the greatest bf16 number. -/
module

public import proofs.«01_k».proof.Pre_finite
public import Idealize.ShloMosaic.Lib.Pointwise

@[expose] public section

noncomputable section

namespace Cert.Finite

open Idealize.ShloMosaic Cert.Pre_finite

/-- What the precondition's function needs of its shapes. -/
theorem facts : Cert.Pre_finite.Facts := ⟨by decide, ⟨by decide, by decide⟩⟩

/-- The precondition says that the absolute value of every entry is at most the bound. -/
theorem bound [Cert.Pre_finite.Facts] (a0 : FVec Ideal S2x128x1920 .bf16) (a1 : IVec S3x3x960x1280 8) (a2 : FVec Ideal S30x1280 .f32)
    (a3 a4 : FVec Ideal S1280 .f32) (h : fn (F := Ideal) a0 a1 a2 a3 a4 = fun _ => 1#1) (b : Fin 2) (s : Fin 128) (k : Fin 1920) :
    FloatOps.absf (F := Ideal) (φ := .f32) (a0 (ix3 b s k)) ≤ Ideal.ofBits .f32 2139029504#32 := by
  have hc := congrFun h (ix3 b s k)
  have hd : BitVec.ofBool (decide (FloatOps.absf (F := Ideal) (φ := .f32) (a0 (ix3 b s k)) ≤ Ideal.ofBits .f32 2139029504#32)) = 1#1 := hc
  by_contra hn
  rw [decide_eq_false hn] at hd
  exact absurd hd (by decide)

end Cert.Finite

end
-- ==== Proof.lean ====
module

public import proofs.«01_k».proof.Defs
public import proofs.«01_k».proof.Proof.Same
public import proofs.«01_k».proof.Proof.Equation
public import proofs.«01_k».proof.Proof.Finite
public import proofs.«01_k».proof.Proof.Gen.ReferenceIdeal.Value
public import Idealize.ShloMosaic.Lib.Claim

@[expose] public section

noncomputable section

namespace Cert.Proof

open Idealize.ShloMosaic Idealize.SL.Sem

/-- The precondition bounds the image. -/
theorem within (m : (ℓ : Loc Cert.KernelIdeal.nD Cert.KernelIdeal.τ Cert.KernelIdeal.sig) → Buf (Elt Ideal) ℓ)
    (h : Cert.Pre_KernelIdeal_finite (hPre_finite := Cert.Finite.facts) m) (c : Dev Cert.KernelIdeal.nD) :
    Cert.Equation.Within (m ((c.tc : Thread Cert.KernelIdeal.nD Cert.KernelIdeal.τ).loc Cert.KernelIdeal.main_arg0)) :=
  @Cert.Finite.bound Cert.Finite.facts _ _ _ _ _ (h c)

/-- From the same arguments, with a finite image, the kernel and the reference leave the same three arrays. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  pair_intro
  · run_from Cert.KernelIdeal.Region.run_main m g
  · refine θ_run_mono (Cert.ReferenceIdeal.Value.run m' g') fun r hr c => ⟨(hr c).1.trans ?_, (hr c).2.1.trans ?_, (hr c).2.2.1.trans ?_, (hr c).2.2.2⟩
    · rw [(hagree c).1, (hagree c).2.1, (hagree c).2.2.1, (hagree c).2.2.2.1, (hagree c).2.2.2.2]
      exact (Cert.Equation.first_eq m c (within m hpre c)).symm
    · rw [(hagree c).1]
      exact (Cert.Equation.codes_eq m c (within m hpre c)).symm
    · rw [(hagree c).1]
      exact (Cert.Equation.scales_eq m c (within m hpre c)).symm

/-- Everything claimed: each program runs and leaves its arguments alone, the ideal kernel is the kernel, and it computes what the reference computes. -/
theorem claim : Cert.Claim :=
  ⟨Cert.Kernel.Gen.facts, Cert.KernelIdeal.Gen.facts, Cert.ReferenceIdeal.Gen.facts, Cert.Finite.facts,
    Cert.Same.frame, fun m ρ _ => Cert.KernelIdeal.Region.frame m ρ, fun m ρ _ => Cert.KernelIdeal.Region.frame m ρ,
    fun m ρ _ => Cert.ReferenceIdeal.Gen.frame m ρ, fun m ρ _ => Cert.ReferenceIdeal.Gen.frame m ρ, trivial, algebraic⟩

end Cert.Proof

end
